-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_router_finite [hPre_router_finite : Cert.Pre_router_finite.Facts] (m : (ℓ : Loc Cert.KernelIdeal.nD Cert.KernelIdeal.τ Cert.KernelIdeal.sig) → Buf (Elt Ideal) ℓ) : Prop :=
  ∀ c : Dev Cert.KernelIdeal.nD,
    (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_router_finite [hPre_router_finite : Cert.Pre_router_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_router_finite [hKernelIdeal : Cert.KernelIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_router_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_router_finite [hReferenceIdeal : Cert.ReferenceIdeal.Facts] [hPre_router_finite : Cert.Pre_router_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_router_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_router_finite [hKernelIdeal : Cert.KernelIdeal.Facts] [hReferenceIdeal : Cert.ReferenceIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_router_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_router_finite : Cert.Pre_router_finite.Facts),
    quiescent_Kernel (hKernel := hKernel)
    ∧ quiescent_KernelIdeal (hKernelIdeal := hKernelIdeal)
    ∧ quiescent_KernelIdeal_pre_router_finite (hKernelIdeal := hKernelIdeal) (hPre_router_finite := hPre_router_finite)
    ∧ quiescent_ReferenceIdeal (hReferenceIdeal := hReferenceIdeal)
    ∧ quiescent_ReferenceIdeal_pre_router_finite (hReferenceIdeal := hReferenceIdeal) (hPre_router_finite := hPre_router_finite)
    ∧ preserves_Kernel_KernelIdeal
    ∧ algebraic_KernelIdeal_ReferenceIdeal_pre_router_finite (hKernelIdeal := hKernelIdeal) (hReferenceIdeal := hReferenceIdeal) (hPre_router_finite := hPre_router_finite)
-- ==== Pre_router_finite.lean ====
abbrev S1x128x768 : Shape := ⟨3, ![1, 128, 768]⟩
abbrev S768 : Shape := ⟨1, ![768]⟩
abbrev S16x768 : Shape := ⟨2, ![16, 768]⟩
abbrev S16 : Shape := ⟨1, ![16]⟩
abbrev S16x1536x768 : Shape := ⟨3, ![16, 1536, 768]⟩
abbrev S16x1536 : Shape := ⟨2, ![16, 1536]⟩
abbrev S16x768x768 : Shape := ⟨3, ![16, 768, 768]⟩
abbrev S_ : Shape := ⟨0, ![]⟩
abbrev S1x768 : Shape := ⟨2, ![1, 768]⟩
abbrev S16x1 : Shape := ⟨2, ![16, 1]⟩

class Facts : Prop where
  bcast_S_S768 : S_.BroadcastsInDim S768 (![] : Fin 0 → Fin S768.rank)
  bcast_S768_S1x768_1 : S768.BroadcastsInDim S1x768 (![1] : Fin 1 → Fin S1x768.rank)
  bcast_S_S16x768 : S_.BroadcastsInDim S16x768 (![] : Fin 0 → Fin S16x768.rank)
  bcast_S1x768_S16x768_0_1 : S1x768.BroadcastsInDim S16x768 (![0, 1] : Fin 2 → Fin S16x768.rank)
  bcast_S_S16 : S_.BroadcastsInDim S16 (![] : Fin 0 → Fin S16.rank)
  bcast_S16_S16x1_0 : S16.BroadcastsInDim S16x1 (![0] : Fin 1 → Fin S16x1.rank)
  bcast_S16x1_S16x768_0_1 : S16x1.BroadcastsInDim S16x768 (![0, 1] : Fin 2 → Fin S16x768.rank)

variable [Facts]

def fn {F : FTy → Type} [FloatOps F] (main_arg0 : FVec F S1x128x768 .f32) (main_arg1 : FVec F S768 .f32) (main_arg2 : FVec F S16x768 .bf16) (main_arg3 : FVec F S16 .bf16) (main_arg4 : FVec F S16x1536x768 .bf16) (main_arg5 : FVec F S16x1536 .bf16) (main_arg6 : FVec F S16x768x768 .bf16) (main_arg7 : FVec F S16x768 .bf16) : IVec S16x768 1 :=
  let main_v0 : FVec F S768 .f32 := Host.absf main_arg1
  let main_cst : FVec F S_ .f32 := constant S_ .f32 0x7F800000#32
  let main_v1 : FVec F S768 .f32 := broadcastInDim S768 ![] bcast_S_S768 main_cst
  let main_v2 : IVec S768 1 := cmpf .olt main_v0 main_v1
  let main_v3 : IVec S1x768 1 := broadcastInDim S1x768 ![1] bcast_S768_S1x768_1 main_v2
  let main_v4 : FVec F S16x768 .bf16 := Host.absf main_arg2
  let main_cst_0 : FVec F S_ .bf16 := constant S_ .bf16 0x7F80#16
  let main_v5 : FVec F S16x768 .bf16 := broadcastInDim S16x768 ![] bcast_S_S16x768 main_cst_0
  let main_v6 : IVec S16x768 1 := cmpf .olt main_v4 main_v5
  let main_v7 : IVec S16x768 1 := broadcastInDim S16x768 ![0, 1] bcast_S1x768_S16x768_0_1 main_v3
  let main_v8 : IVec S16x768 1 := andi main_v7 main_v6
  let main_v9 : FVec F S16 .bf16 := Host.absf main_arg3
  let main_cst_1 : FVec F S_ .bf16 := constant S_ .bf16 0x7F80#16
  let main_v10 : FVec F S16 .bf16 := broadcastInDim S16 ![] bcast_S_S16 main_cst_1
  let main_v11 : IVec S16 1 := cmpf .olt main_v9 main_v10
  let main_v12 : IVec S16x1 1 := broadcastInDim S16x1 ![0] bcast_S16_S16x1_0 main_v11
  let main_v13 : IVec S16x768 1 := broadcastInDim S16x768 ![0, 1] bcast_S16x1_S16x768_0_1 main_v12
  let main_v14 : IVec S16x768 1 := andi main_v8 main_v13
  main_v14
-- ==== Kernel.lean ====
abbrev S1x128x768 : Shape := ⟨3, ![1, 128, 768]⟩
abbrev S768 : Shape := ⟨1, ![768]⟩
abbrev S16x768 : Shape := ⟨2, ![16, 768]⟩
abbrev S16 : Shape := ⟨1, ![16]⟩
abbrev S16x1536x768 : Shape := ⟨3, ![16, 1536, 768]⟩
abbrev S16x1536 : Shape := ⟨2, ![16, 1536]⟩
abbrev S16x768x768 : Shape := ⟨3, ![16, 768, 768]⟩
abbrev S1x768 : Shape := ⟨2, ![1, 768]⟩
abbrev S1x16 : Shape := ⟨2, ![1, 16]⟩
abbrev S1x1536x768 : Shape := ⟨3, ![1, 1536, 768]⟩
abbrev S1x768x768 : Shape := ⟨3, ![1, 768, 768]⟩
abbrev S768x128 : Shape := ⟨2, ![768, 128]⟩
abbrev S16x128 : Shape := ⟨2, ![16, 128]⟩
abbrev S1536x16 : Shape := ⟨2, ![1536, 16]⟩
abbrev S1536x128 : Shape := ⟨2, ![1536, 128]⟩
abbrev S128x768 : Shape := ⟨2, ![128, 768]⟩
abbrev S128 : Shape := ⟨1, ![128]⟩
abbrev S128x1 : Shape := ⟨2, ![128, 1]⟩
abbrev S128x16 : Shape := ⟨2, ![128, 16]⟩
abbrev S1x128 : Shape := ⟨2, ![1, 128]⟩
abbrev S1536x768 : Shape := ⟨2, ![1536, 768]⟩
abbrev S768x16 : Shape := ⟨2, ![768, 16]⟩
abbrev S768x1 : Shape := ⟨2, ![768, 1]⟩
abbrev S768x768 : Shape := ⟨2, ![768, 768]⟩

abbrev nBuf : Space → Nat
  | .hbm => 11
  | .vmem => 16
  | .smem => 0
  | _ => 0

abbrev bufTy : (tb : Table) → Fin (tcTables nBuf tb) → BufTy
  | .hbm, ⟨0, _⟩ => ⟨S1x128x768, .f32⟩
  | .hbm, ⟨1, _⟩ => ⟨S768, .f32⟩
  | .hbm, ⟨2, _⟩ => ⟨S16x768, .bf16⟩
  | .hbm, ⟨3, _⟩ => ⟨S16, .bf16⟩
  | .hbm, ⟨4, _⟩ => ⟨S16x1536x768, .bf16⟩
  | .hbm, ⟨5, _⟩ => ⟨S16x1536, .bf16⟩
  | .hbm, ⟨6, _⟩ => ⟨S16x768x768, .bf16⟩
  | .hbm, ⟨7, _⟩ => ⟨S16x768, .bf16⟩
  | .hbm, ⟨8, _⟩ => ⟨S1x768, .f32⟩
  | .hbm, ⟨9, _⟩ => ⟨S1x16, .bf16⟩
  | .hbm, ⟨10, _⟩ => ⟨S1x128x768, .bf16⟩
  | .local _ .vmem, ⟨0, _⟩ => ⟨S1x128x768, .f32⟩
  | .local _ .vmem, ⟨1, _⟩ => ⟨S1x768, .f32⟩
  | .local _ .vmem, ⟨2, _⟩ => ⟨S16x768, .bf16⟩
  | .local _ .vmem, ⟨3, _⟩ => ⟨S1x16, .bf16⟩
  | .local _ .vmem, ⟨4, _⟩ => ⟨S1x1536x768, .bf16⟩
  | .local _ .vmem, ⟨5, _⟩ => ⟨S1x1536x768, .bf16⟩
  | .local _ .vmem, ⟨6, _⟩ => ⟨S16x1536, .bf16⟩
  | .local _ .vmem, ⟨7, _⟩ => ⟨S1x768x768, .bf16⟩
  | .local _ .vmem, ⟨8, _⟩ => ⟨S1x768x768, .bf16⟩
  | .local _ .vmem, ⟨9, _⟩ => ⟨S16x768, .bf16⟩
  | .local _ .vmem, ⟨10, _⟩ => ⟨S1x128x768, .bf16⟩
  | .local _ .vmem, ⟨11, _⟩ => ⟨S768x128, .bf16⟩
  | .local _ .vmem, ⟨12, _⟩ => ⟨S16x128, .f32⟩
  | .local _ .vmem, ⟨13, _⟩ => ⟨S1536x16, .f32⟩
  | .local _ .vmem, ⟨14, _⟩ => ⟨S768x128, .f32⟩
  | .local _ .vmem, ⟨15, _⟩ => ⟨S1536x128, .f32⟩
  | _, _ => ⟨S1x128x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem8_0 : DmaSem sig := 10

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let v49 : Index := Scalar.indexCast arg0
  let c0_29 : Index := 0#32
  ![v49.toNat, 0]
def k0_cond2 (i : grid0.Coords) : BitVec 1 :=
  let arg0 : BitVec 32 := BitVec.ofNat 32 (i 0).val
  let c15_i32 : BitVec 32 := 15#32
  let v57 : BitVec 1 := Scalar.cmpi .eq arg0 c15_i32
  let v58 : BitVec 32 := Scalar.extui v57
  let c0_i32_32 : BitVec 32 := 0#32
  let v59 : BitVec 1 := Scalar.cmpi .ne v58 c0_i32_32
  v59

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S1x128x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1536x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x768x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128x768 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S1x128x768 : Shape := ⟨3, ![1, 128, 768]⟩
abbrev S768 : Shape := ⟨1, ![768]⟩
abbrev S16x768 : Shape := ⟨2, ![16, 768]⟩
abbrev S16 : Shape := ⟨1, ![16]⟩
abbrev S16x1536x768 : Shape := ⟨3, ![16, 1536, 768]⟩
abbrev S16x1536 : Shape := ⟨2, ![16, 1536]⟩
abbrev S16x768x768 : Shape := ⟨3, ![16, 768, 768]⟩
abbrev S_ : Shape := ⟨0, ![]⟩
abbrev S1x128 : Shape := ⟨2, ![1, 128]⟩
abbrev S1x128x1 : Shape := ⟨3, ![1, 128, 1]⟩
abbrev S1x1x768 : Shape := ⟨3, ![1, 1, 768]⟩
abbrev S768x16 : Shape := ⟨2, ![768, 16]⟩
abbrev S1x128x16 : Shape := ⟨3, ![1, 128, 16]⟩
abbrev S1x1x16 : Shape := ⟨3, ![1, 1, 16]⟩
abbrev S1x128x2 : Shape := ⟨3, ![1, 128, 2]⟩
abbrev S1x128x2x1 : Shape := ⟨4, ![1, 128, 2, 1]⟩
abbrev S1 : Shape := ⟨1, ![1]⟩
abbrev S1x1x1x1 : Shape := ⟨4, ![1, 1, 1, 1]⟩
abbrev S1x128x2x1536x768 : Shape := ⟨5, ![1, 128, 2, 1536, 768]⟩
abbrev S1x128x2x1536 : Shape := ⟨4, ![1, 128, 2, 1536]⟩
abbrev S1x128x2x768x2 : Shape := ⟨5, ![1, 128, 2, 768, 2]⟩
abbrev S1x128x2x768x1 : Shape := ⟨5, ![1, 128, 2, 768, 1]⟩
abbrev S1x128x2x768 : Shape := ⟨4, ![1, 128, 2, 768]⟩
abbrev S1x128x2x768x768 : Shape := ⟨5, ![1, 128, 2, 768, 768]⟩

abbrev nBuf : Space → Nat
  | .hbm => 187
  | .vmem => 0
  | .smem => 0
  | _ => 0

abbrev hbmTy0_0 (i : Nat) : BufTy := match i % 128 with
  | 0 => ⟨S1x128x768, .f32⟩
  | 1 => ⟨S768, .f32⟩
  | 2 => ⟨S16x768, .bf16⟩
  | 3 => ⟨S16, .bf16⟩
  | 4 => ⟨S16x1536x768, .bf16⟩
  | 5 => ⟨S16x1536, .bf16⟩
  | 6 => ⟨S16x768x768, .bf16⟩
  | 7 => ⟨S16x768, .bf16⟩
  | 8 => ⟨S1x128x768, .bf16⟩
  | 9 => ⟨S1x128x768, .f32⟩
  | 10 => ⟨S1x128x768, .f32⟩
  | 11 => ⟨S_, .f32⟩
  | 12 => ⟨S1x128, .f32⟩
  | 13 => ⟨S1x128x1, .f32⟩
  | 14 => ⟨S_, .f32⟩
  | 15 => ⟨S1x128x1, .f32⟩
  | 16 => ⟨S1x128x1, .f32⟩
  | 17 => ⟨S_, .f32⟩
  | 18 => ⟨S1x128x1, .f32⟩
  | 19 => ⟨S1x128x1, .f32⟩
  | 20 => ⟨S1x128x1, .f32⟩
  | 21 => ⟨S1x128x768, .f32⟩
  | 22 => ⟨S1x128x768, .f32⟩
  | 23 => ⟨S1x1x768, .f32⟩
  | 24 => ⟨S1x128x768, .f32⟩
  | 25 => ⟨S1x128x768, .f32⟩
  | 26 => ⟨S1x128x768, .bf16⟩
  | 27 => ⟨S1x128x768, .f32⟩
  | 28 => ⟨S16x768, .f32⟩
  | 29 => ⟨S768x16, .f32⟩
  | 30 => ⟨S1x128x16, .f32⟩
  | 31 => ⟨S16, .f32⟩
  | 32 => ⟨S1x1x16, .f32⟩
  | 33 => ⟨S1x128x16, .f32⟩
  | 34 => ⟨S1x128x16, .f32⟩
  | 35 => ⟨S1x128x16, .bf16⟩
  | 36 => ⟨S1x128x16, .f32⟩
  | 37 => ⟨S1x128x2, .f32⟩
  | 38 => ⟨S1x128x2, .i32⟩
  | 39 => ⟨S_, .f32⟩
  | 40 => ⟨S1x128, .f32⟩
  | 41 => ⟨S_, .f32⟩
  | 42 => ⟨S1x128, .f32⟩
  | 43 => ⟨S1x128, .f32⟩
  | 44 => ⟨S1x128x1, .f32⟩
  | 45 => ⟨S1x128x2, .f32⟩
  | 46 => ⟨S1x128x2, .f32⟩
  | 47 => ⟨S1x128x2, .f32⟩
  | 48 => ⟨S_, .f32⟩
  | 49 => ⟨S1x128, .f32⟩
  | 50 => ⟨S1x128x1, .f32⟩
  | 51 => ⟨S1x128x2, .f32⟩
  | 52 => ⟨S1x128x2, .f32⟩
  | 53 => ⟨S_, .i32⟩
  | 54 => ⟨S1x128x2, .i32⟩
  | 55 => ⟨S1x128x2, .i1⟩
  | 56 => ⟨S_, .i32⟩
  | 57 => ⟨S1x128x2, .i32⟩
  | 58 => ⟨S1x128x2, .i32⟩
  | 59 => ⟨S1x128x2, .i32⟩
  | 60 => ⟨S1x128x2x1, .i32⟩
  | 61 => ⟨S1, .i32⟩
  | 62 => ⟨S_, .i32⟩
  | 63 => ⟨S1x128x2x1, .i32⟩
  | 64 => ⟨S1x128x2x1, .i1⟩
  | 65 => ⟨S1x1x1x1, .i32⟩
  | 66 => ⟨S1x128x2x1, .i32⟩
  | 67 => ⟨S1x128x2x1, .i1⟩
  | 68 => ⟨S1x128x2x1, .i1⟩
  | 69 => ⟨S_, .i1⟩
  | 70 => ⟨S1x128x2, .i1⟩
  | 71 => ⟨S1x128x2x1536x768, .bf16⟩
  | 72 => ⟨S1x128x2x1536x768, .i1⟩
  | 73 => ⟨S_, .bf16⟩
  | 74 => ⟨S1x128x2x1536x768, .bf16⟩
  | 75 => ⟨S1x128x2x1536x768, .bf16⟩
  | 76 => ⟨S1x128x2x1536x768, .f32⟩
  | 77 => ⟨S_, .i32⟩
  | 78 => ⟨S1x128x2, .i32⟩
  | 79 => ⟨S1x128x2, .i1⟩
  | 80 => ⟨S_, .i32⟩
  | 81 => ⟨S1x128x2, .i32⟩
  | 82 => ⟨S1x128x2, .i32⟩
  | 83 => ⟨S1x128x2, .i32⟩
  | 84 => ⟨S1x128x2x1, .i32⟩
  | 85 => ⟨S1, .i32⟩
  | 86 => ⟨S_, .i32⟩
  | 87 => ⟨S1x128x2x1, .i32⟩
  | 88 => ⟨S1x128x2x1, .i1⟩
  | 89 => ⟨S1x1x1x1, .i32⟩
  | 90 => ⟨S1x128x2x1, .i32⟩
  | 91 => ⟨S1x128x2x1, .i1⟩
  | 92 => ⟨S1x128x2x1, .i1⟩
  | 93 => ⟨S_, .i1⟩
  | 94 => ⟨S1x128x2, .i1⟩
  | 95 => ⟨S1x128x2x1536, .bf16⟩
  | 96 => ⟨S1x128x2x1536, .i1⟩
  | 97 => ⟨S_, .bf16⟩
  | 98 => ⟨S1x128x2x1536, .bf16⟩
  | 99 => ⟨S1x128x2x1536, .bf16⟩
  | 100 => ⟨S1x128x2x1536, .f32⟩
  | 101 => ⟨S1x128x768, .f32⟩
  | 102 => ⟨S1x128x2x1536, .f32⟩
  | 103 => ⟨S1x128x2x1536, .f32⟩
  | 104 => ⟨S1x128x2x768x2, .f32⟩
  | 105 => ⟨S1x128x2x768x1, .f32⟩
  | 106 => ⟨S1x128x2x768, .f32⟩
  | 107 => ⟨S1x128x2x768x1, .f32⟩
  | 108 => ⟨S1x128x2x768, .f32⟩
  | 109 => ⟨S_, .f32⟩
  | 110 => ⟨S1x128x2x768, .f32⟩
  | 111 => ⟨S1x128x2x768, .f32⟩
  | 112 => ⟨S_, .f32⟩
  | 113 => ⟨S1x128x2x768, .f32⟩
  | 114 => ⟨S1x128x2x768, .f32⟩
  | 115 => ⟨S_, .f32⟩
  | 116 => ⟨S1x128x2x768, .f32⟩
  | 117 => ⟨S1x128x2x768, .f32⟩
  | 118 => ⟨S_, .f32⟩
  | 119 => ⟨S1x128x2x768, .f32⟩
  | 120 => ⟨S1x128x2x768, .f32⟩
  | 121 => ⟨S1x128x2x768, .f32⟩
  | 122 => ⟨S1x128x2x768, .f32⟩
  | 123 => ⟨S_, .f32⟩
  | 124 => ⟨S1x128x2x768, .f32⟩
  | 125 => ⟨S1x128x2x768, .f32⟩
  | 126 => ⟨S_, .f32⟩
  | 127 => ⟨S1x128x2x768, .f32⟩
  | _ => ⟨S1x128x768, .f32⟩

abbrev hbmTy0_1 (i : Nat) : BufTy := match i % 128 with
  | 0 => ⟨S1x128x2x768, .f32⟩
  | 1 => ⟨S1x128x2x768, .f32⟩
  | 2 => ⟨S_, .f32⟩
  | 3 => ⟨S1x128x2x768, .f32⟩
  | 4 => ⟨S1x128x2x768, .f32⟩
  | 5 => ⟨S1x128x2x768, .f32⟩
  | 6 => ⟨S_, .i32⟩
  | 7 => ⟨S1x128x2, .i32⟩
  | 8 => ⟨S1x128x2, .i1⟩
  | 9 => ⟨S_, .i32⟩
  | 10 => ⟨S1x128x2, .i32⟩
  | 11 => ⟨S1x128x2, .i32⟩
  | 12 => ⟨S1x128x2, .i32⟩
  | 13 => ⟨S1x128x2x1, .i32⟩
  | 14 => ⟨S1, .i32⟩
  | 15 => ⟨S_, .i32⟩
  | 16 => ⟨S1x128x2x1, .i32⟩
  | 17 => ⟨S1x128x2x1, .i1⟩
  | 18 => ⟨S1x1x1x1, .i32⟩
  | 19 => ⟨S1x128x2x1, .i32⟩
  | 20 => ⟨S1x128x2x1, .i1⟩
  | 21 => ⟨S1x128x2x1, .i1⟩
  | 22 => ⟨S_, .i1⟩
  | 23 => ⟨S1x128x2, .i1⟩
  | 24 => ⟨S1x128x2x768x768, .bf16⟩
  | 25 => ⟨S1x128x2x768x768, .i1⟩
  | 26 => ⟨S_, .bf16⟩
  | 27 => ⟨S1x128x2x768x768, .bf16⟩
  | 28 => ⟨S1x128x2x768x768, .bf16⟩
  | 29 => ⟨S1x128x2x768x768, .f32⟩
  | 30 => ⟨S_, .i32⟩
  | 31 => ⟨S1x128x2, .i32⟩
  | 32 => ⟨S1x128x2, .i1⟩
  | 33 => ⟨S_, .i32⟩
  | 34 => ⟨S1x128x2, .i32⟩
  | 35 => ⟨S1x128x2, .i32⟩
  | 36 => ⟨S1x128x2, .i32⟩
  | 37 => ⟨S1x128x2x1, .i32⟩
  | 38 => ⟨S1, .i32⟩
  | 39 => ⟨S_, .i32⟩
  | 40 => ⟨S1x128x2x1, .i32⟩
  | 41 => ⟨S1x128x2x1, .i1⟩
  | 42 => ⟨S1x1x1x1, .i32⟩
  | 43 => ⟨S1x128x2x1, .i32⟩
  | 44 => ⟨S1x128x2x1, .i1⟩
  | 45 => ⟨S1x128x2x1, .i1⟩
  | 46 => ⟨S_, .i1⟩
  | 47 => ⟨S1x128x2, .i1⟩
  | 48 => ⟨S1x128x2x768, .bf16⟩
  | 49 => ⟨S1x128x2x768, .i1⟩
  | 50 => ⟨S_, .bf16⟩
  | 51 => ⟨S1x128x2x768, .bf16⟩
  | 52 => ⟨S1x128x2x768, .bf16⟩
  | 53 => ⟨S1x128x2x768, .f32⟩
  | 54 => ⟨S1x128x2x768, .f32⟩
  | 55 => ⟨S1x128x2x768, .f32⟩
  | 56 => ⟨S1x128x768, .f32⟩
  | 57 => ⟨S1x128x768, .bf16⟩
  | 58 => ⟨S1x128x768, .bf16⟩
  | _ => ⟨S1x128x768, .f32⟩

abbrev hbmTy (i : Nat) : BufTy := match i / 128 with
  | 0 => hbmTy0_0 i
  | 1 => hbmTy0_1 i
  | _ => ⟨S1x128x768, .f32⟩

abbrev bufTy : (tb : Table) → Fin (tcTables nBuf tb) → BufTy
  | .hbm, ⟨i, _⟩ => hbmTy i
  | _, _ => ⟨S1x128x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_values : Ref sig .tc := ⟨.hbm, 37, rfl⟩
abbrev main_indices : Ref sig .tc := ⟨.hbm, 38, rfl⟩
abbrev main_cst_2 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_call0_c : Ref sig .tc := ⟨.hbm, 53, rfl⟩
abbrev main_call0_v0 : Ref sig .tc := ⟨.hbm, 54, rfl⟩
abbrev main_call0_v1 : Ref sig .tc := ⟨.hbm, 55, rfl⟩
abbrev main_call0_c_0 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_v5 : Ref sig .tc := ⟨.hbm, 60, rfl⟩
abbrev main_call0_c_1 : Ref sig .tc := ⟨.hbm, 61, rfl⟩
abbrev main_call0_c_2 : Ref sig .tc := ⟨.hbm, 62, rfl⟩
abbrev main_call0_v6 : Ref sig .tc := ⟨.hbm, 63, rfl⟩
abbrev main_call0_v7 : Ref sig .tc := ⟨.hbm, 64, rfl⟩
abbrev main_call0_v8 : Ref sig .tc := ⟨.hbm, 65, rfl⟩
abbrev main_call0_v9 : Ref sig .tc := ⟨.hbm, 66, rfl⟩
abbrev main_call0_v10 : Ref sig .tc := ⟨.hbm, 67, rfl⟩
abbrev main_call0_v11 : Ref sig .tc := ⟨.hbm, 68, rfl⟩
abbrev main_call0_c_3 : Ref sig .tc := ⟨.hbm, 69, rfl⟩
abbrev main_call0_v12 : Ref sig .tc := ⟨.hbm, 70, rfl⟩
abbrev main_call0_v13 : Ref sig .tc := ⟨.hbm, 71, rfl⟩
abbrev main_call0_v14 : Ref sig .tc := ⟨.hbm, 72, rfl⟩
abbrev main_call0_cst : Ref sig .tc := ⟨.hbm, 73, rfl⟩
abbrev main_call0_v15 : Ref sig .tc := ⟨.hbm, 74, rfl⟩
abbrev main_v37 : Ref sig .tc := ⟨.hbm, 75, rfl⟩
abbrev main_v38 : Ref sig .tc := ⟨.hbm, 76, rfl⟩
abbrev main_call1_c : Ref sig .tc := ⟨.hbm, 77, rfl⟩
abbrev main_call1_v0 : Ref sig .tc := ⟨.hbm, 78, rfl⟩
abbrev main_call1_v1 : Ref sig .tc := ⟨.hbm, 79, rfl⟩
abbrev main_call1_c_0 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_c_1 : Ref sig .tc := ⟨.hbm, 85, rfl⟩
abbrev main_call1_c_2 : Ref sig .tc := ⟨.hbm, 86, rfl⟩
abbrev main_call1_v6 : Ref sig .tc := ⟨.hbm, 87, rfl⟩
abbrev main_call1_v7 : Ref sig .tc := ⟨.hbm, 88, rfl⟩
abbrev main_call1_v8 : Ref sig .tc := ⟨.hbm, 89, rfl⟩
abbrev main_call1_v9 : Ref sig .tc := ⟨.hbm, 90, rfl⟩
abbrev main_call1_v10 : Ref sig .tc := ⟨.hbm, 91, rfl⟩
abbrev main_call1_v11 : Ref sig .tc := ⟨.hbm, 92, rfl⟩
abbrev main_call1_c_3 : Ref sig .tc := ⟨.hbm, 93, rfl⟩
abbrev main_call1_v12 : Ref sig .tc := ⟨.hbm, 94, rfl⟩
abbrev main_call1_v13 : Ref sig .tc := ⟨.hbm, 95, rfl⟩
abbrev main_call1_v14 : Ref sig .tc := ⟨.hbm, 96, rfl⟩
abbrev main_call1_cst : Ref sig .tc := ⟨.hbm, 97, rfl⟩
abbrev main_call1_v15 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_cst_5 : Ref sig .tc := ⟨.hbm, 109, rfl⟩
abbrev main_v49 : Ref sig .tc := ⟨.hbm, 110, rfl⟩
abbrev main_v50 : Ref sig .tc := ⟨.hbm, 111, rfl⟩
abbrev main_cst_6 : Ref sig .tc := ⟨.hbm, 112, rfl⟩
abbrev main_v51 : Ref sig .tc := ⟨.hbm, 113, rfl⟩
abbrev main_v52 : Ref sig .tc := ⟨.hbm, 114, rfl⟩
abbrev main_cst_7 : Ref sig .tc := ⟨.hbm, 115, rfl⟩
abbrev main_v53 : Ref sig .tc := ⟨.hbm, 116, rfl⟩
abbrev main_v54 : Ref sig .tc := ⟨.hbm, 117, rfl⟩
abbrev main_cst_8 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_cst_9 : Ref sig .tc := ⟨.hbm, 123, rfl⟩
abbrev main_v59 : Ref sig .tc := ⟨.hbm, 124, rfl⟩
abbrev main_v60 : Ref sig .tc := ⟨.hbm, 125, rfl⟩
abbrev main_cst_10 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_cst_11 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev main_call2_c : Ref sig .tc := ⟨.hbm, 134, rfl⟩
abbrev main_call2_v0 : Ref sig .tc := ⟨.hbm, 135, rfl⟩
abbrev main_call2_v1 : Ref sig .tc := ⟨.hbm, 136, rfl⟩
abbrev main_call2_c_0 : Ref sig .tc := ⟨.hbm, 137, rfl⟩
abbrev main_call2_v2 : Ref sig .tc := ⟨.hbm, 138, rfl⟩
abbrev main_call2_v3 : Ref sig .tc := ⟨.hbm, 139, rfl⟩
abbrev main_call2_v4 : Ref sig .tc := ⟨.hbm, 140, rfl⟩
abbrev main_call2_v5 : Ref sig .tc := ⟨.hbm, 141, rfl⟩
abbrev main_call2_c_1 : Ref sig .tc := ⟨.hbm, 142, rfl⟩
abbrev main_call2_c_2 : Ref sig .tc := ⟨.hbm, 143, rfl⟩
abbrev main_call2_v6 : Ref sig .tc := ⟨.hbm, 144, rfl⟩
abbrev main_call2_v7 : Ref sig .tc := ⟨.hbm, 145, rfl⟩
abbrev main_call2_v8 : Ref sig .tc := ⟨.hbm, 146, rfl⟩
abbrev main_call2_v9 : Ref sig .tc := ⟨.hbm, 147, rfl⟩
abbrev main_call2_v10 : Ref sig .tc := ⟨.hbm, 148, rfl⟩
abbrev main_call2_v11 : Ref sig .tc := ⟨.hbm, 149, rfl⟩
abbrev main_call2_c_3 : Ref sig .tc := ⟨.hbm, 150, rfl⟩
abbrev main_call2_v12 : Ref sig .tc := ⟨.hbm, 151, rfl⟩
abbrev main_call2_v13 : Ref sig .tc := ⟨.hbm, 152, rfl⟩
abbrev main_call2_v14 : Ref sig .tc := ⟨.hbm, 153, rfl⟩
abbrev main_call2_cst : Ref sig .tc := ⟨.hbm, 154, rfl⟩
abbrev main_call2_v15 : Ref sig .tc := ⟨.hbm, 155, rfl⟩
abbrev main_v67 : Ref sig .tc := ⟨.hbm, 156, rfl⟩
abbrev main_v68 : Ref sig .tc := ⟨.hbm, 157, rfl⟩
abbrev main_call3_c : Ref sig .tc := ⟨.hbm, 158, rfl⟩
abbrev main_call3_v0 : Ref sig .tc := ⟨.hbm, 159, rfl⟩
abbrev main_call3_v1 : Ref sig .tc := ⟨.hbm, 160, rfl⟩
abbrev main_call3_c_0 : Ref sig .tc := ⟨.hbm, 161, rfl⟩
abbrev main_call3_v2 : Ref sig .tc := ⟨.hbm, 162, rfl⟩
abbrev main_call3_v3 : Ref sig .tc := ⟨.hbm, 163, rfl⟩
abbrev main_call3_v4 : Ref sig .tc := ⟨.hbm, 164, rfl⟩
abbrev main_call3_v5 : Ref sig .tc := ⟨.hbm, 165, rfl⟩
abbrev main_call3_c_1 : Ref sig .tc := ⟨.hbm, 166, rfl⟩
abbrev main_call3_c_2 : Ref sig .tc := ⟨.hbm, 167, rfl⟩
abbrev main_call3_v6 : Ref sig .tc := ⟨.hbm, 168, rfl⟩
abbrev main_call3_v7 : Ref sig .tc := ⟨.hbm, 169, rfl⟩
abbrev main_call3_v8 : Ref sig .tc := ⟨.hbm, 170, rfl⟩
abbrev main_call3_v9 : Ref sig .tc := ⟨.hbm, 171, rfl⟩
abbrev main_call3_v10 : Ref sig .tc := ⟨.hbm, 172, rfl⟩
abbrev main_call3_v11 : Ref sig .tc := ⟨.hbm, 173, rfl⟩
abbrev main_call3_c_3 : Ref sig .tc := ⟨.hbm, 174, rfl⟩
abbrev main_call3_v12 : Ref sig .tc := ⟨.hbm, 175, rfl⟩
abbrev main_call3_v13 : Ref sig .tc := ⟨.hbm, 176, rfl⟩
abbrev main_call3_v14 : Ref sig .tc := ⟨.hbm, 177, rfl⟩
abbrev main_call3_cst : Ref sig .tc := ⟨.hbm, 178, rfl⟩
abbrev main_call3_v15 : Ref sig .tc := ⟨.hbm, 179, rfl⟩
abbrev main_v69 : Ref sig .tc := ⟨.hbm, 180, rfl⟩
abbrev main_v70 : Ref sig .tc := ⟨.hbm, 181, rfl⟩
abbrev main_v71 : Ref sig .tc := ⟨.hbm, 182, rfl⟩
abbrev main_v72 : Ref sig .tc := ⟨.hbm, 183, rfl⟩
abbrev main_v73 : Ref sig .tc := ⟨.hbm, 184, rfl⟩
abbrev main_v74 : Ref sig .tc := ⟨.hbm, 185, rfl⟩
abbrev main_v75 : Ref sig .tc := ⟨.hbm, 186, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Skeleton
public import Idealize.ShloMosaic.Lib.WholeRead
public import Idealize.ShloMosaic.Lib.VecWindow
public import Idealize.ShloMosaic.Lib.Claim

/-! # The kernel body at one grid point

The kernel visits the sixteen experts one after the other. This module says, for one point, what the body leaves in
its five scratch buffers and in the output block, given what it finds there: three triples, one for the first point,
one for the points between, one for the last. -/

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads with stride two -/

/-- The even rows of the hidden activations. -/
abbrev hEven : LoadRect S1536x128 := ⟨![0, 0], S768x128.size, ![2, 1], inb_S1536x128_S768x128_0_0_s_2_1⟩
/-- The odd rows of the hidden activations. -/
abbrev hOdd : LoadRect S1536x128 := ⟨![1, 0], S768x128.size, ![2, 1], inb_S1536x128_S768x128_1_0_s_2_1⟩
/-- The even rows of the transposed first bias. -/
abbrev bEven : LoadRect S1536x16 := ⟨![0, 0], S768x16.size, ![2, 1], inb_S1536x16_S768x16_0_0_s_2_1⟩
/-- The odd rows of the transposed first bias. -/
abbrev bOdd : LoadRect S1536x16 := ⟨![1, 0], S768x16.size, ![2, 1], inb_S1536x16_S768x16_1_0_s_2_1⟩
/-- The row of the coefficient table that belongs to the point's expert. -/
abbrev cRow (i : grid0.Coords) : LoadRect S16x128 := (Rect.unit (s := S16x128) (k0_off1 i) S1x128.size (k0_off1_inb i)).toLoadRect

attribute [local irreducible] k0_pay1 k0_pay2 k0_pay4 k0_pay5 k0_pay6 k0_pay7 k0_pay8 k0_pay9 k0_pay10 k0_pay11 k0_pay12 k0_pay13
  k0_pay14 k0_pay15

/-- The accumulator after one expert: what it held, plus the expert's coefficient times its second product. -/
def accNext (i : grid0.Coords) (nt : Vec F S768x128 .bf16) (cf : Vec F S16x128 .f32) (b1 : Vec F S1536x16 .f32)
    (acc : Vec F S768x128 .f32) (w1 : Vec F S1x1536x768 .bf16) (w2 : Vec F S1x768x768 .bf16) : Vec F S768x128 .f32 :=
  k0_pay1 (k0_pay14 i (fun j => k0_pay13 nt w1 (hOdd.idx j)) (fun j => b1 (bOdd.idx j)))
    (k0_pay15 i (fun j => k0_pay13 nt w1 (hEven.idx j)) (fun j => b1 (bEven.idx j)))
    (Scalar.ofBits .f32 0xC0E00000#32) w2 acc (fun j => cf ((cRow i).idx j))

/-- The body's first condition: the point is the grid's first. -/
abbrev isFirst (i : grid0.Coords) : Prop :=
  Scalar.cmpi .ne (Scalar.extui (Scalar.cmpi .eq (BitVec.ofNat 32 (i 0).val) 0#32)) 0#32 = 1#1
/-- The body's second condition: the point is the grid's last. -/
abbrev isLast (i : grid0.Coords) : Prop := k0_cond2 i = 1#1

/-- The body's coefficient table: for every token the weights of its two best experts, zero elsewhere. -/
def coefs (x : Vec F S1x128x768 .f32) (nw : Vec F S1x768 .f32) (gw : Vec F S16x768 .bf16) (gb : Vec F S1x16 .bf16) :
    Vec F S16x128 .f32 :=
  k0_pay9 (k0_pay5 x nw gw gb) (iota .tc S16x128 32 [0] iota_S16x128_d0_w32) (k0_pay6 x nw gw gb)
    (k0_pay7 x nw gw gb) (k0_pay8 x nw gw gb)

/-- The accumulator's start: zero everywhere. -/
def accZero : Vec F S768x128 .f32 := k0_pay12 k0_pay11

/-! ## What loads read -/

/-- A load of a whole matrix known to hold `X` reads `X`. -/
theorem readAt_whole2 {sig : RefSig} {κ : Kind} {sp : Space} {d : Fin 2 → ℕ} {e : EltTy} {Val : EltTy → Type}
    {m : Memref sig κ sp ⟨2, d⟩ e} (h : m.IsWhole) (X : (⟨2, d⟩ : Shape).Idx → Val e) {off : Fin 2 → ℕ}
    (inb : ∀ a, off a + d a ≤ d a) :
    View.readAt Val m.view (Rect.unit (s := ⟨2, d⟩) off d inb).toLoadRect (h.unread X) = X :=
  (View.readAt_full m.view _ inb).trans (h.read_unread X)

/-- The same for a buffer with three axes. -/
theorem readAt_whole3 {sig : RefSig} {κ : Kind} {sp : Space} {d : Fin 3 → ℕ} {e : EltTy} {Val : EltTy → Type}
    {m : Memref sig κ sp ⟨3, d⟩ e} (h : m.IsWhole) (X : (⟨3, d⟩ : Shape).Idx → Val e) {off : Fin 3 → ℕ}
    (inb : ∀ a, off a + d a ≤ d a) :
    View.readAt Val m.view (Rect.unit (s := ⟨3, d⟩) off d inb).toLoadRect (h.unread X) = X :=
  (View.readAt_full m.view _ inb).trans (h.read_unread X)

/-- A load of a whole matrix just stored reads what was stored. -/
theorem readCov_whole2 {sig : RefSig} {κ : Kind} {sp : Space} {d : Fin 2 → ℕ} {e : EltTy} {Val : EltTy → Type}
    [∀ e, Nonempty (Val e)] (v : View sig κ sp ⟨2, d⟩ e) {off off' : Fin 2 → ℕ} (inb : ∀ a, off a + d a ≤ d a)
    (inb' : ∀ a, off' a + d a ≤ d a) (w : (⟨2, d⟩ : Shape).Idx → Val e) (L : List (View.Piece Val ⟨2, d⟩ e)) :
    v.readCov (⟨Rect.unit (s := ⟨2, d⟩) off' d inb', w⟩ :: L) (Rect.unit (s := ⟨2, d⟩) off d inb).toLoadRect = w :=
  View.readCov_full v inb inb' w L

/-- A load through any rectangle of a matrix just stored reads what was stored, at the rectangle's index. -/
theorem readCov_part2 {sig : RefSig} {κ : Kind} {sp : Space} {d : Fin 2 → ℕ} {e : EltTy} {Val : EltTy → Type}
    [∀ e, Nonempty (Val e)] (v : View sig κ sp ⟨2, d⟩ e) {off : Fin 2 → ℕ} (inb : ∀ a, off a + d a ≤ d a)
    (w : (⟨2, d⟩ : Shape).Idx → Val e) (L : List (View.Piece Val ⟨2, d⟩ e)) (B : LoadRect ⟨2, d⟩) :
    v.readCov (⟨Rect.unit (s := ⟨2, d⟩) off d inb, w⟩ :: L) B = fun j => w (B.idx j) :=
  funext fun j => congrFun (View.read_writes_full v v.junk inb w L) (B.idx j)

/-- The same, the stores written out over some contents. -/
theorem readAt_writes_part2 {sig : RefSig} {κ : Kind} {sp : Space} {d : Fin 2 → ℕ} {e : EltTy} {Val : EltTy → Type}
    (v : View sig κ sp ⟨2, d⟩ e) (f : v.ty.Contents Val) {off : Fin 2 → ℕ} (inb : ∀ a, off a + d a ≤ d a)
    (w : (⟨2, d⟩ : Shape).Idx → Val e) (L : List (View.Piece Val ⟨2, d⟩ e)) (B : LoadRect ⟨2, d⟩) :
    v.readAt Val B (v.writes Val f (⟨Rect.unit (s := ⟨2, d⟩) off d inb, w⟩ :: L)) = fun j => w (B.idx j) :=
  funext fun j => congrFun (View.read_writes_full v f inb w L) (B.idx j)

/-- A load through any rectangle of a buffer known to hold `X` reads `X` at the rectangle's index. -/
theorem readAt_part {sig : RefSig} {κ : Kind} {sp : Space} {s : Shape} {e : EltTy} {Val : EltTy → Type}
    {m : Memref sig κ sp s e} (h : m.IsWhole) (X : s.Idx → Val e) (B : LoadRect s) :
    View.readAt Val m.view B (h.unread X) = fun j => X (B.idx j) :=
  funext fun j => h.readAt_unread X B j

/-! ## The three triples -/

variable (c : Dev nD) (i : grid0.Coords)
  (arg1 : Memref sig .tc .vmem S1x128x768 .f32) (harg1 : arg1.IsWhole)
  (arg2 : Memref sig .tc .vmem S1x768 .f32) (harg2 : arg2.IsWhole)
  (arg3 : Memref sig .tc .vmem S16x768 .bf16) (harg3 : arg3.IsWhole)
  (arg4 : Memref sig .tc .vmem S1x16 .bf16) (harg4 : arg4.IsWhole)
  (arg5 : Memref sig .tc .vmem S1x1536x768 .bf16) (harg5 : arg5.IsWhole)
  (arg6 : Memref sig .tc .vmem S16x1536 .bf16) (harg6 : arg6.IsWhole)
  (arg7 : Memref sig .tc .vmem S1x768x768 .bf16) (harg7 : arg7.IsWhole)
  (arg8 : Memref sig .tc .vmem S16x768 .bf16) (harg8 : arg8.IsWhole)
  (arg9 : Memref sig .tc .vmem S1x128x768 .bf16) (harg9 : arg9.IsWhole)
  (arg10 : Memref sig .tc .vmem S768x128 .bf16) (harg10 : arg10.IsWhole)
  (arg11 : Memref sig .tc .vmem S16x128 .f32) (harg11 : arg11.IsWhole)
  (arg12 : Memref sig .tc .vmem S1536x16 .f32) (harg12 : arg12.IsWhole)
  (arg13 : Memref sig .tc .vmem S768x128 .f32) (harg13 : arg13.IsWhole)
  (arg14 : Memref sig .tc .vmem S1536x128 .f32) (harg14 : arg14.IsWhole)

set_option maxHeartbeats 1600000 in
/-- A point that is neither first nor last: the three tables stay, the accumulator becomes `accNext`, the output
block is not touched. -/
theorem body_mid (hc0 : ¬isFirst i) (hc1 : ¬isLast i)
    (x4 : Vec F S1x1536x768 .bf16) (x6 : Vec F S1x768x768 .bf16)
    (nt : Vec F S768x128 .bf16) (cf : Vec F S16x128 .f32) (b1 : Vec F S1536x16 .f32) (acc : Vec F S768x128 .f32)
    (E : Set ℕ) (K : PUnit → sProp 𝕄) :
    iprop(owns (c : Thread nD τ) arg5 fullShare x4 ∗ owns (c : Thread nD τ) arg7 fullShare x6 ∗ owns (c : Thread nD τ) arg10 fullShare nt ∗ owns (c : Thread nD τ) arg11 fullShare cf ∗ owns (c : Thread nD τ) arg12 fullShare b1 ∗ owns (c : Thread nD τ) arg13 fullShare acc ∗ (∃ d, owns (c : Thread nD τ) arg14 fullShare d)
        ∗ (iprop(owns (c : Thread nD τ) arg5 fullShare x4 ∗ owns (c : Thread nD τ) arg7 fullShare x6 ∗ owns (c : Thread nD τ) arg10 fullShare nt ∗ owns (c : Thread nD τ) arg11 fullShare cf ∗ owns (c : Thread nD τ) arg12 fullShare b1 ∗ owns (c : Thread nD τ) arg13 fullShare (accNext i nt cf b1 acc x4 x6) ∗ (∃ d, owns (c : Thread nD τ) arg14 fullShare d)) -∗ K ⟨⟩))
      ⊢ wp frame (wpE (defs₀ (F := F)) Variants.none c none) E (cc0__moe_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__moe_kernel_eq_skeleton]; unfold cc0__moe_kernel_skel
  simp only [k0_part3_eq_skeleton, k0_part1_eq_skeleton, k0_part2_eq_skeleton]
  unfold owns
  iintro ⟨⟨%f5, %hf5, H5⟩, ⟨%f7, %hf7, H7⟩, ⟨%f10, %hf10, H10⟩, ⟨%f11, %hf11, H11⟩, ⟨%f12, %hf12, H12⟩, ⟨%f13, %hf13, H13⟩, ⟨%d14, %f14, -, H14⟩, Hk⟩
  obtain rfl := harg5.eq_unread hf5
  obtain rfl := harg7.eq_unread hf7
  obtain rfl := harg10.eq_unread hf10
  obtain rfl := harg11.eq_unread hf11
  obtain rfl := harg12.eq_unread hf12
  obtain rfl := harg13.eq_unread hf13
  sl_exec (disch := first | sl_exact hc0 | sl_exact hc1)
  sl_step
  iapply Hk
  isplitl [H5]
  · iexists _; isplitr; · ipureintro; exact harg5.read_unread _
    iexact H5
  isplitl [H7]
  · iexists _; isplitr; · ipureintro; exact harg7.read_unread _
    iexact H7
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr
    swap; · iexact H13
    ipureintro
    refine (View.read_writes_full _ _ _ _ _).trans ?_
    unfold body_mid.sl.r body_mid.sl.r_1 body_mid.sl.cst_19 body_mid.sl.v10 body_mid.sl.v11 body_mid.sl.H14_1
    simp only [readCov_whole2, readAt_whole2, readAt_whole3]
    simp only [readCov_part2, readAt_writes_part2, readAt_part]
    unfold accNext
    rfl
  iexists _; iexists _; isplitr
  swap; · iexact H14
  ipureintro; rfl

set_option maxHeartbeats 1600000 in
/-- The last point: as the points between, and the output block receives the sum of the input, the accumulator and
the weighted second biases. -/
theorem body_last (hc0 : ¬isFirst i) (hc1 : isLast i)
    (x0 : Vec F S1x128x768 .f32) (x7 : Vec F S16x768 .bf16) (x4 : Vec F S1x1536x768 .bf16) (x6 : Vec F S1x768x768 .bf16)
    (nt : Vec F S768x128 .bf16) (cf : Vec F S16x128 .f32) (b1 : Vec F S1536x16 .f32) (acc : Vec F S768x128 .f32)
    (E : Set ℕ) (K : PUnit → sProp 𝕄) :
    iprop(owns (c : Thread nD τ) arg1 fullShare x0 ∗ owns (c : Thread nD τ) arg5 fullShare x4 ∗ owns (c : Thread nD τ) arg7 fullShare x6 ∗ owns (c : Thread nD τ) arg8 fullShare x7 ∗ (∃ d, owns (c : Thread nD τ) arg9 fullShare d) ∗ owns (c : Thread nD τ) arg10 fullShare nt ∗ owns (c : Thread nD τ) arg11 fullShare cf ∗ owns (c : Thread nD τ) arg12 fullShare b1 ∗ owns (c : Thread nD τ) arg13 fullShare acc ∗ (∃ d, owns (c : Thread nD τ) arg14 fullShare d)
        ∗ (iprop(owns (c : Thread nD τ) arg1 fullShare x0 ∗ owns (c : Thread nD τ) arg5 fullShare x4 ∗ owns (c : Thread nD τ) arg7 fullShare x6 ∗ owns (c : Thread nD τ) arg8 fullShare x7 ∗ owns (c : Thread nD τ) arg9 fullShare (k0_pay2 x7 cf x0 (accNext i nt cf b1 acc x4 x6)) ∗ owns (c : Thread nD τ) arg10 fullShare nt ∗ owns (c : Thread nD τ) arg11 fullShare cf ∗ owns (c : Thread nD τ) arg12 fullShare b1 ∗ owns (c : Thread nD τ) arg13 fullShare (accNext i nt cf b1 acc x4 x6) ∗ (∃ d, owns (c : Thread nD τ) arg14 fullShare d)) -∗ K ⟨⟩))
      ⊢ wp frame (wpE (defs₀ (F := F)) Variants.none c none) E (cc0__moe_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__moe_kernel_eq_skeleton]; unfold cc0__moe_kernel_skel
  simp only [k0_part3_eq_skeleton, k0_part1_eq_skeleton, k0_part2_eq_skeleton]
  unfold owns
  iintro ⟨⟨%f1, %hf1, H1⟩, ⟨%f5, %hf5, H5⟩, ⟨%f7, %hf7, H7⟩, ⟨%f8, %hf8, H8⟩, ⟨%d9, %f9, -, H9⟩, ⟨%f10, %hf10, H10⟩, ⟨%f11, %hf11, H11⟩, ⟨%f12, %hf12, H12⟩, ⟨%f13, %hf13, H13⟩, ⟨%d14, %f14, -, H14⟩, Hk⟩
  obtain rfl := harg1.eq_unread hf1
  obtain rfl := harg5.eq_unread hf5
  obtain rfl := harg7.eq_unread hf7
  obtain rfl := harg8.eq_unread hf8
  obtain rfl := harg10.eq_unread hf10
  obtain rfl := harg11.eq_unread hf11
  obtain rfl := harg12.eq_unread hf12
  obtain rfl := harg13.eq_unread hf13
  sl_exec (disch := first | sl_exact hc0 | sl_exact hc1)
  sl_step
  iapply Hk
  isplitl [H1]
  · iexists _; isplitr; · ipureintro; exact harg1.read_unread _
    iexact H1
  isplitl [H5]
  · iexists _; isplitr; · ipureintro; exact harg5.read_unread _
    iexact H5
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    refine (View.read_writes_full _ _ _ _ _).trans ?_
    unfold body_last.sl.v67 body_last.sl.H13_1 body_last.sl.r body_last.sl.r_1 body_last.sl.cst_19 body_last.sl.v10 body_last.sl.v11 body_last.sl.H14_1
    simp only [readCov_whole2, readAt_whole2, readAt_whole3]
    simp only [readCov_part2, readAt_writes_part2, readAt_part]
    unfold accNext
    rfl
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr
    swap; · iexact H13
    ipureintro
    refine (View.read_writes_full _ _ _ _ _).trans ?_
    unfold body_last.sl.r body_last.sl.r_1 body_last.sl.cst_19 body_last.sl.v10 body_last.sl.v11 body_last.sl.H14_1
    simp only [readCov_whole2, readAt_whole2, readAt_whole3]
    simp only [readCov_part2, readAt_writes_part2, readAt_part]
    unfold accNext
    rfl
  iexists _; iexists _; isplitr
  swap; · iexact H14
  ipureintro; rfl

set_option maxHeartbeats 1600000 in
/-- The first point: the three tables are computed, the accumulator is zeroed and then becomes `accNext`; the output
block is not touched. -/
theorem body_first (hc0 : isFirst i) (hc1 : ¬isLast i)
    (x0 : Vec F S1x128x768 .f32) (x1 : Vec F S1x768 .f32) (x2 : Vec F S16x768 .bf16) (x3 : Vec F S1x16 .bf16)
    (x5 : Vec F S16x1536 .bf16) (x4 : Vec F S1x1536x768 .bf16) (x6 : Vec F S1x768x768 .bf16)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg10 fullShare (k0_pay4 x0 x1) ∗ owns (c : Thread nD τ) arg11 fullShare (coefs x0 x1 x2 x3) ∗ owns (c : Thread nD τ) arg12 fullShare (k0_pay10 x5) ∗ owns (c : Thread nD τ) arg13 fullShare (accNext i (k0_pay4 x0 x1) (coefs x0 x1 x2 x3) (k0_pay10 x5) accZero x4 x6) ∗ (∃ d, owns (c : Thread nD τ) arg14 fullShare d)) -∗ K ⟨⟩))
      ⊢ wp frame (wpE (defs₀ (F := F)) Variants.none c none) E (cc0__moe_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__moe_kernel_eq_skeleton]; unfold cc0__moe_kernel_skel
  simp only [k0_part3_eq_skeleton, k0_part1_eq_skeleton, k0_part2_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d10, %f10, -, H10⟩, ⟨%d11, %f11, -, H11⟩, ⟨%d12, %f12, -, H12⟩, ⟨%d13, %f13, -, H13⟩, ⟨%d14, %f14, -, H14⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H10]
  · iexists _; isplitr
    swap; · iexact H10
    ipureintro
    refine (View.read_writes_full _ _ _ _ _).trans ?_
    simp only [readAt_whole2, readAt_whole3]
  isplitl [H11]
  · iexists _; isplitr
    swap; · iexact H11
    ipureintro
    refine (View.read_writes_full _ _ _ _ _).trans ?_
    unfold body_first.sl.r body_first.sl.r_1 body_first.sl.r_2 body_first.sl.r_3 body_first.sl.v91
    simp only [readCov_whole2, readAt_whole2, readAt_whole3]
    unfold coefs
    rfl
  isplitl [H12]
  · iexists _; isplitr
    swap; · iexact H12
    ipureintro
    refine (View.read_writes_full _ _ _ _ _).trans ?_
    simp only [readAt_whole2, readAt_whole3]
  isplitl [H13]
  · iexists _; isplitr
    swap; · iexact H13
    ipureintro
    refine (View.read_writes_full _ _ _ _ _).trans ?_
    unfold body_first.sl.r_4 body_first.sl.r_5 body_first.sl.cst_19 body_first.sl.v10 body_first.sl.v11 body_first.sl.v13 body_first.sl.v14 body_first.sl.v48 body_first.sl.v50 body_first.sl.H14_1 body_first.sl.v3 body_first.sl.H10_1 body_first.sl.H11_1 body_first.sl.H12_1 body_first.sl.H13_1 body_first.sl.r body_first.sl.r_1 body_first.sl.r_2 body_first.sl.r_3 body_first.sl.v91
    simp only [readCov_whole2, readAt_whole2, readAt_whole3]
    simp only [readCov_part2, readAt_writes_part2, readAt_part]
    unfold accNext accZero coefs
    rfl
  iexists _; iexists _; isplitr
  swap; · iexact H14
  ipureintro; rfl

end Cert.KernelIdeal.Body

end
-- ==== Proof.Run.lean ====
module

public import proofs.«01_k».proof.Proof.Body

/-! # The kernel's run

What the scratch buffers hold after each of the sixteen points, the proof data of the pipeline built from it, and the
run of the whole program: every execution ends, the argument arrays are as launched, the counters are zero, and the
output array is the pipeline's. Everything here holds at any float instance, so the same run serves the kernel at bits
and the idealized kernel. -/

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch buffers hold -/

/-- The grid's first point. -/
def pt0 : Fin cfg0.N := ⟨0, lt_of_lt_of_eq (by decide : 0 < 16) N_0.symm⟩

/-- The normalised input, transposed, as the first point leaves it. -/
def normT (c : Dev nD) : Vec F S768x128 .bf16 := k0_pay4 (iblk m c 0 pt0) (iblk m c 1 pt0)
/-- The coefficient table, as the first point leaves it. -/
def coefT (c : Dev nD) : Vec F S16x128 .f32 := coefs (iblk m c 0 pt0) (iblk m c 1 pt0) (iblk m c 2 pt0) (iblk m c 3 pt0)
/-- The transposed first bias, as the first point leaves it. -/
def biasT (c : Dev nD) : Vec F S1536x16 .f32 := k0_pay10 (iblk m c 5 pt0)

/-- The accumulator after point `n`. -/
def accAt (c : Dev nD) : (n : ℕ) → n < cfg0.N → Vec F S768x128 .f32
  | 0, h => accNext (grid0.coords ⟨0, h⟩) (normT m c) (coefT m c) (biasT m c) accZero (iblk m c 4 ⟨0, h⟩) (iblk m c 6 ⟨0, h⟩)
  | n + 1, h => accNext (grid0.coords ⟨n + 1, h⟩) (normT m c) (coefT m c) (biasT m c) (accAt c n (Nat.lt_of_succ_lt h))
      (iblk m c 4 ⟨n + 1, h⟩) (iblk m c 6 ⟨n + 1, h⟩)

/-- The output block computed from the accumulator after point `t`; only the last point's is stored. -/
def outAt (c : Dev nD) (t : Fin cfg0.N) : Vec F S1x128x768 .bf16 :=
  k0_pay2 (iblk m c 7 t) (coefT m c) (iblk m c 0 t) (accAt m c t.val t.isLt)

/-- The accumulator after a point that is not the first, from the one before. -/
theorem accAt_pos (c : Dev nD) (t : Fin cfg0.N) (h : t.val ≠ 0) :
    accAt m c t.val t.isLt = accNext (grid0.coords t) (normT m c) (coefT m c) (biasT m c)
      (accAt m c (t.val - 1) (Nat.lt_of_le_of_lt (Nat.sub_le _ _) t.isLt)) (iblk m c 4 t) (iblk m c 6 t) := by
  obtain ⟨n, hn⟩ := t
  cases n with
  | zero => exact absurd rfl h
  | succ n => rfl

/-! ## Where the two conditions hold, and where the output window is idle -/

/-- The first condition holds at the first point only. -/
theorem isFirst_iff : ∀ t : Fin cfg0.N, isFirst (grid0.coords t) ↔ t.val = 0 := by decide +kernel
/-- The second condition holds at the last point only. -/
theorem isLast_iff : ∀ t : Fin cfg0.N, isLast (grid0.coords t) ↔ t.val = 15 := by decide +kernel
/-- Before the last point the output window is idle, -/
theorem idle_out : ∀ t : Fin cfg0.N, t.val ≠ 15 → cfg0.idle 8 (grid0.coords t) = true := by decide +kernel
/-- and is not written back; -/
theorem noFlush_out : ∀ t : Fin cfg0.N, t.val ≠ 15 → (cfg0.win 8).flush t = false := by decide +kernel
/-- at the last point it is live. -/
theorem live_out : ∀ t : Fin cfg0.N, t.val = 15 → cfg0.idle 8 (grid0.coords t) = false := by decide +kernel

/-! ## The invariant and the proof data -/

/-- Scratch buffer 0, whole. -/
abbrev scr0 : Memref sig .tc .vmem S768x128 .bf16 := Memref.whole cc0_scratch0
/-- Scratch buffer 1, whole. -/
abbrev scr1 : Memref sig .tc .vmem S16x128 .f32 := Memref.whole cc0_scratch1
/-- Scratch buffer 2, whole. -/
abbrev scr2 : Memref sig .tc .vmem S1536x16 .f32 := Memref.whole cc0_scratch2
/-- Scratch buffer 3, whole. -/
abbrev scr3 : Memref sig .tc .vmem S768x128 .f32 := Memref.whole cc0_scratch3
/-- Scratch buffer 4, whole. -/
abbrev scr4 : Memref sig .tc .vmem S1536x128 .f32 := Memref.whole cc0_scratch4

/-- What the launch hands the region: every scratch buffer at something, and the generator register. -/
theorem launchInv_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d)) ∗ (∃ r, prngReg c r)) := by
  unfold Pipeline.ΦA; rw [scopedRest0_eq]; simp only [scr0, scr1, scr2, scr3, scr4, owns_whole]; try rfl

/-- The invariant before position `n`: at the start what the launch hands over; afterwards the tables and the
accumulator at their contents, the hidden activations at something. -/
def inv (c : Dev nD) : (n : ℕ) → n ≤ cfg0.N → sProp 𝕄
  | 0, _ => Pipeline.ΦA spec0 c
  | n + 1, hn => iprop(iprop(owns (c : Thread nD τ) scr0 fullShare (normT m c) ∗ owns (c : Thread nD τ) scr1 fullShare (coefT m c) ∗ owns (c : Thread nD τ) scr2 fullShare (biasT m c) ∗ owns (c : Thread nD τ) scr3 fullShare (accAt m c n hn) ∗ (∃ d, owns (c : Thread nD τ) scr4 fullShare d)) ∗ (∃ r, prngReg c r))

/-- Before the first point the invariant is the launch's allocation. -/
theorem inv_zero (c : Dev nD) (n : ℕ) (h : n ≤ cfg0.N) (hz : n = 0) : inv m c n h = Pipeline.ΦA spec0 c := by
  subst hz; rfl

/-- After point `n` the scratch arrays hold what the points up to `n` left there. -/
theorem inv_succ (c : Dev nD) (n : ℕ) (h : n < cfg0.N) :
    inv m c (n + 1) h = iprop(iprop(owns (c : Thread nD τ) scr0 fullShare (normT m c) ∗ owns (c : Thread nD τ) scr1 fullShare (coefT m c) ∗ owns (c : Thread nD τ) scr2 fullShare (biasT m c) ∗ owns (c : Thread nD τ) scr3 fullShare (accAt m c n h) ∗ (∃ d, owns (c : Thread nD τ) scr4 fullShare d)) ∗ (∃ r, prngReg c r)) := rfl

/-- The same, before a point that is not the first. -/
theorem inv_pos (c : Dev nD) (n : ℕ) (h : n ≤ cfg0.N) (hz : n ≠ 0) :
    inv m c n h = iprop(iprop(owns (c : Thread nD τ) scr0 fullShare (normT m c) ∗ owns (c : Thread nD τ) scr1 fullShare (coefT m c) ∗ owns (c : Thread nD τ) scr2 fullShare (biasT m c) ∗ owns (c : Thread nD τ) scr3 fullShare (accAt m c (n - 1) (by omega)) ∗ (∃ d, owns (c : Thread nD τ) scr4 fullShare d)) ∗ (∃ r, prngReg c r)) := by
  cases n with
  | zero => exact absurd rfl hz
  | succ n => rfl

/-- The pipeline's proof data on core `c`: the arrays as the region finds them, each input's block left in place, the
output block at `outAt`, the invariant `inv`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ t := inv m c t.val (Nat.le_of_lt_succ t.isLt)
  q _ := fullShare
  owed _ := 0

/-- A window's array starts as the launch holds it. -/
theorem dats_A (c : Dev nD) (w : Fin cfg0.W) : (dats m 0 c).A w = V m c (Pipeline.arrRef spec0 w) := by
  dsimp only [dats]

/-- What holds before a point is the invariant there. -/
theorem dats_inv (c : Dev nD) (t : Fin cfg0.N) :
    (dats m 0 c).Φ t.castSucc = inv m c t.val (Nat.le_of_lt t.isLt) := by
  dsimp only [dats]; exact Pipeline.Dat.Φ_castSucc (inv m c) t

/-- After a point window 0's staging buffer holds its input block. -/
theorem after_0 (c : Dev nD) (t : Fin cfg0.N) : (dats m 0 c).after 0 t = iblk m c 0 t := by dsimp only [dats]
/-- After a point window 1's staging buffer holds its input block. -/
theorem after_1 (c : Dev nD) (t : Fin cfg0.N) : (dats m 0 c).after 1 t = iblk m c 1 t := by dsimp only [dats]
/-- After a point window 2's staging buffer holds its input block. -/
theorem after_2 (c : Dev nD) (t : Fin cfg0.N) : (dats m 0 c).after 2 t = iblk m c 2 t := by dsimp only [dats]
/-- After a point window 3's staging buffer holds its input block. -/
theorem after_3 (c : Dev nD) (t : Fin cfg0.N) : (dats m 0 c).after 3 t = iblk m c 3 t := by dsimp only [dats]
/-- After a point window 4's staging buffer holds its input block. -/
theorem after_4 (c : Dev nD) (t : Fin cfg0.N) : (dats m 0 c).after 4 t = iblk m c 4 t := by dsimp only [dats]
/-- After a point window 5's staging buffer holds its input block. -/
theorem after_5 (c : Dev nD) (t : Fin cfg0.N) : (dats m 0 c).after 5 t = iblk m c 5 t := by dsimp only [dats]
/-- After a point window 6's staging buffer holds its input block. -/
theorem after_6 (c : Dev nD) (t : Fin cfg0.N) : (dats m 0 c).after 6 t = iblk m c 6 t := by dsimp only [dats]
/-- After a point window 7's staging buffer holds its input block. -/
theorem after_7 (c : Dev nD) (t : Fin cfg0.N) : (dats m 0 c).after 7 t = iblk m c 7 t := by dsimp only [dats]
/-- After a point window 8's staging buffer holds the output block. -/
theorem after_8 (c : Dev nD) (t : Fin cfg0.N) : (dats m 0 c).after 8 t = outAt m c t := by dsimp only [dats]

/-- Before a point window 0's staging buffer holds its input block. -/
theorem before_0 (c : Dev nD) (t : Fin cfg0.N) (d) : (dats m 0 c).before 0 t d = iblk m c 0 t :=
  before0_0_of m (dats m 0 c) (dats_A m c 0) (after_0 m c) t d
/-- Before a point window 1's staging buffer holds its input block. -/
theorem before_1 (c : Dev nD) (t : Fin cfg0.N) (d) : (dats m 0 c).before 1 t d = iblk m c 1 t :=
  before0_1_of m (dats m 0 c) (dats_A m c 1) (after_1 m c) t d
/-- Before a point window 2's staging buffer holds its input block. -/
theorem before_2 (c : Dev nD) (t : Fin cfg0.N) (d) : (dats m 0 c).before 2 t d = iblk m c 2 t :=
  before0_2_of m (dats m 0 c) (dats_A m c 2) (after_2 m c) t d
/-- Before a point window 3's staging buffer holds its input block. -/
theorem before_3 (c : Dev nD) (t : Fin cfg0.N) (d) : (dats m 0 c).before 3 t d = iblk m c 3 t :=
  before0_3_of m (dats m 0 c) (dats_A m c 3) (after_3 m c) t d
/-- Before a point window 4's staging buffer holds its input block. -/
theorem before_4 (c : Dev nD) (t : Fin cfg0.N) (d) : (dats m 0 c).before 4 t d = iblk m c 4 t :=
  before0_4_of m (dats m 0 c) (dats_A m c 4) (after_4 m c) t d
/-- Before a point window 5's staging buffer holds its input block. -/
theorem before_5 (c : Dev nD) (t : Fin cfg0.N) (d) : (dats m 0 c).before 5 t d = iblk m c 5 t :=
  before0_5_of m (dats m 0 c) (dats_A m c 5) (after_5 m c) t d
/-- Before a point window 6's staging buffer holds its input block. -/
theorem before_6 (c : Dev nD) (t : Fin cfg0.N) (d) : (dats m 0 c).before 6 t d = iblk m c 6 t :=
  before0_6_of m (dats m 0 c) (dats_A m c 6) (after_6 m c) t d
/-- Before a point window 7's staging buffer holds its input block. -/
theorem before_7 (c : Dev nD) (t : Fin cfg0.N) (d) : (dats m 0 c).before 7 t d = iblk m c 7 t :=
  before0_7_of m (dats m 0 c) (dats_A m c 7) (after_7 m c) t d

/-! ## The body obligation -/

/-- Window 0's staging buffer at point `t`, and that it is whole. -/
abbrev stg0 (t : Fin cfg0.N) : Memref sig .tc .vmem S1x128x768 .f32 := win0_0.stage (cfg0.slots t 0)
abbrev stgWhole0 (t : Fin cfg0.N) : (stg0 t).IsWhole := hstage0_0 ((cfg0.slots t 0).cast nbuf0_0)
/-- Window 1's staging buffer at point `t`, and that it is whole. -/
abbrev stg1 (t : Fin cfg0.N) : Memref sig .tc .vmem S1x768 .f32 := win0_1.stage (cfg0.slots t 1)
abbrev stgWhole1 (t : Fin cfg0.N) : (stg1 t).IsWhole := hstage0_1 ((cfg0.slots t 1).cast nbuf0_1)
/-- Window 2's staging buffer at point `t`, and that it is whole. -/
abbrev stg2 (t : Fin cfg0.N) : Memref sig .tc .vmem S16x768 .bf16 := win0_2.stage (cfg0.slots t 2)
abbrev stgWhole2 (t : Fin cfg0.N) : (stg2 t).IsWhole := hstage0_2 ((cfg0.slots t 2).cast nbuf0_2)
/-- Window 3's staging buffer at point `t`, and that it is whole. -/
abbrev stg3 (t : Fin cfg0.N) : Memref sig .tc .vmem S1x16 .bf16 := win0_3.stage (cfg0.slots t 3)
abbrev stgWhole3 (t : Fin cfg0.N) : (stg3 t).IsWhole := hstage0_3 ((cfg0.slots t 3).cast nbuf0_3)
/-- Window 4's staging buffer at point `t`, and that it is whole. -/
abbrev stg4 (t : Fin cfg0.N) : Memref sig .tc .vmem S1x1536x768 .bf16 := win0_4.stage (cfg0.slots t 4)
abbrev stgWhole4 (t : Fin cfg0.N) : (stg4 t).IsWhole := hstage0_4 ((cfg0.slots t 4).cast nbuf0_4)
/-- Window 5's staging buffer at point `t`, and that it is whole. -/
abbrev stg5 (t : Fin cfg0.N) : Memref sig .tc .vmem S16x1536 .bf16 := win0_5.stage (cfg0.slots t 5)
abbrev stgWhole5 (t : Fin cfg0.N) : (stg5 t).IsWhole := hstage0_5 ((cfg0.slots t 5).cast nbuf0_5)
/-- Window 6's staging buffer at point `t`, and that it is whole. -/
abbrev stg6 (t : Fin cfg0.N) : Memref sig .tc .vmem S1x768x768 .bf16 := win0_6.stage (cfg0.slots t 6)
abbrev stgWhole6 (t : Fin cfg0.N) : (stg6 t).IsWhole := hstage0_6 ((cfg0.slots t 6).cast nbuf0_6)
/-- Window 7's staging buffer at point `t`, and that it is whole. -/
abbrev stg7 (t : Fin cfg0.N) : Memref sig .tc .vmem S16x768 .bf16 := win0_7.stage (cfg0.slots t 7)
abbrev stgWhole7 (t : Fin cfg0.N) : (stg7 t).IsWhole := hstage0_7 ((cfg0.slots t 7).cast nbuf0_7)
/-- Window 8's staging buffer at point `t`, and that it is whole. -/
abbrev stg8 (t : Fin cfg0.N) : Memref sig .tc .vmem S1x128x768 .bf16 := win0_8.stage (cfg0.slots t 8)
abbrev stgWhole8 (t : Fin cfg0.N) : (stg8 t).IsWhole := hstage0_8 ((cfg0.slots t 8).cast nbuf0_8)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d)))

/-- What the body returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- At every point the body leaves window 0's staging buffer so. -/
theorem leaves_0 (c : Dev nD) (t : Fin cfg0.N) :
    (dats m 0 c).leavesExact 0 t = owns (c : Thread nD τ) (stg0 t) fullShare (iblk m c 0 t) := by
  rw [show (dats m 0 c).leavesExact 0 t = owns (c : Thread nD τ) (stg0 t) fullShare ((dats m 0 c).after 0 t) from by
    unfold Dat.leavesExact; rw [show cfg0.idle 0 (grid0.coords t) = false from rfl], after_0]
/-- At every point the body leaves window 1's staging buffer so. -/
theorem leaves_1 (c : Dev nD) (t : Fin cfg0.N) :
    (dats m 0 c).leavesExact 1 t = owns (c : Thread nD τ) (stg1 t) fullShare (iblk m c 1 t) := by
  rw [show (dats m 0 c).leavesExact 1 t = owns (c : Thread nD τ) (stg1 t) fullShare ((dats m 0 c).after 1 t) from by
    unfold Dat.leavesExact; rw [show cfg0.idle 1 (grid0.coords t) = false from rfl], after_1]
/-- At every point the body leaves window 2's staging buffer so. -/
theorem leaves_2 (c : Dev nD) (t : Fin cfg0.N) :
    (dats m 0 c).leavesExact 2 t = owns (c : Thread nD τ) (stg2 t) fullShare (iblk m c 2 t) := by
  rw [show (dats m 0 c).leavesExact 2 t = owns (c : Thread nD τ) (stg2 t) fullShare ((dats m 0 c).after 2 t) from by
    unfold Dat.leavesExact; rw [show cfg0.idle 2 (grid0.coords t) = false from rfl], after_2]
/-- At every point the body leaves window 3's staging buffer so. -/
theorem leaves_3 (c : Dev nD) (t : Fin cfg0.N) :
    (dats m 0 c).leavesExact 3 t = owns (c : Thread nD τ) (stg3 t) fullShare (iblk m c 3 t) := by
  rw [show (dats m 0 c).leavesExact 3 t = owns (c : Thread nD τ) (stg3 t) fullShare ((dats m 0 c).after 3 t) from by
    unfold Dat.leavesExact; rw [show cfg0.idle 3 (grid0.coords t) = false from rfl], after_3]
/-- At every point the body leaves window 4's staging buffer so. -/
theorem leaves_4 (c : Dev nD) (t : Fin cfg0.N) :
    (dats m 0 c).leavesExact 4 t = owns (c : Thread nD τ) (stg4 t) fullShare (iblk m c 4 t) := by
  rw [show (dats m 0 c).leavesExact 4 t = owns (c : Thread nD τ) (stg4 t) fullShare ((dats m 0 c).after 4 t) from by
    unfold Dat.leavesExact; rw [show cfg0.idle 4 (grid0.coords t) = false from rfl], after_4]
/-- At every point the body leaves window 5's staging buffer so. -/
theorem leaves_5 (c : Dev nD) (t : Fin cfg0.N) :
    (dats m 0 c).leavesExact 5 t = owns (c : Thread nD τ) (stg5 t) fullShare (iblk m c 5 t) := by
  rw [show (dats m 0 c).leavesExact 5 t = owns (c : Thread nD τ) (stg5 t) fullShare ((dats m 0 c).after 5 t) from by
    unfold Dat.leavesExact; rw [show cfg0.idle 5 (grid0.coords t) = false from rfl], after_5]
/-- At every point the body leaves window 6's staging buffer so. -/
theorem leaves_6 (c : Dev nD) (t : Fin cfg0.N) :
    (dats m 0 c).leavesExact 6 t = owns (c : Thread nD τ) (stg6 t) fullShare (iblk m c 6 t) := by
  rw [show (dats m 0 c).leavesExact 6 t = owns (c : Thread nD τ) (stg6 t) fullShare ((dats m 0 c).after 6 t) from by
    unfold Dat.leavesExact; rw [show cfg0.idle 6 (grid0.coords t) = false from rfl], after_6]
/-- At every point the body leaves window 7's staging buffer so. -/
theorem leaves_7 (c : Dev nD) (t : Fin cfg0.N) :
    (dats m 0 c).leavesExact 7 t = owns (c : Thread nD τ) (stg7 t) fullShare (iblk m c 7 t) := by
  rw [show (dats m 0 c).leavesExact 7 t = owns (c : Thread nD τ) (stg7 t) fullShare ((dats m 0 c).after 7 t) from by
    unfold Dat.leavesExact; rw [show cfg0.idle 7 (grid0.coords t) = false from rfl], after_7]
/-- At the last point the body leaves window 8's staging buffer so. -/
theorem leaves_8 (c : Dev nD) (t : Fin cfg0.N) (h : t.val = 15) :
    (dats m 0 c).leavesExact 8 t = owns (c : Thread nD τ) (stg8 t) fullShare (outAt m c t) := by
  rw [show (dats m 0 c).leavesExact 8 t = owns (c : Thread nD τ) (stg8 t) fullShare ((dats m 0 c).after 8 t) from by
    unfold Dat.leavesExact; rw [live_out t h], after_8]

set_option maxHeartbeats 2000000 in
/-- The body at any point, from the invariant before it to the invariant after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = inv m c (t.val + 1) t.isLt from rfl, inv_succ]
  rw [leaves_0, leaves_1, leaves_2, leaves_3, leaves_4, leaves_5, leaves_6, leaves_7, dats_inv]
  by_cases hz : t.val = 0
  · have hl : t.val ≠ 15 := by omega
    rw [Dat.leavesExact_idle (dats m 0 c) 8 t (idle_out t hl) (noFlush_out t hl)]
    obtain rfl : t = pt0 := Fin.ext hz
    have ha : accAt m c pt0.val pt0.isLt = accNext (grid0.coords pt0) (normT m c) (coefT m c) (biasT m c) accZero (iblk m c 4 pt0) (iblk m c 6 pt0) := rfl
    rw [ha]
    rw [inv_zero m c _ _ hz, launchInv_eq]
    iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_first c (grid0.coords pt0) _ _ _ _ _ _ _ _ _ _ _ _ _ _ _ _ _ _ _ _ _ _ _ _ _ _ _ _ ((isFirst_iff pt0).mpr rfl) (fun h => hl ((isLast_iff pt0).mp h)) (iblk m c 0 pt0) (iblk m c 1 pt0) (iblk m c 2 pt0) (iblk m c 3 pt0) (iblk m c 5 pt0) (iblk m c 4 pt0) (iblk m c 6 pt0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S0]; · iexact S0
    isplitl [S1]; · iexact S1
    isplitl [S2]; · iexact S2
    isplitl [S3]; · iexact S3
    isplitl [S4]; · iexact S4
    iintro ⟨H0, H1, H2, H3, H4, H5, H6, S0, S1, S2, S3, S4⟩
    isplitl [S0 S1 S2 S3 S4 Hg]
    · isplitl [S0 S1 S2 S3 S4]
      · isplitl [S0]; · iexact S0
        isplitl [S1]; · iexact S1
        isplitl [S2]; · iexact S2
        isplitl [S3]; · iexact S3
        iexact S4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · by_cases hl : t.val = 15
    · rw [leaves_8 m c t hl]
      have ho : outAt m c t = k0_pay2 (iblk m c 7 t) (coefT m c) (iblk m c 0 t) (accAt m c t.val t.isLt) := rfl
      rw [ho, accAt_pos m c t hz]
      rw [inv_pos m c _ _ hz]
      iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (body_last c (grid0.coords t) _ _ _ _ _ _ _ _ _ _ _ _ _ _ _ _ _ _ _ _ _ _ _ _ _ _ _ _ (fun h => hz ((isFirst_iff t).mp h)) ((isLast_iff t).mpr hl) (iblk m c 0 t) (iblk m c 7 t) (iblk m c 4 t) (iblk m c 6 t) (normT m c) (coefT m c) (biasT m c) (accAt m c (t.val - 1) (Nat.lt_of_le_of_lt (Nat.sub_le _ _) t.isLt)) Set.univ _)
      isplitl [H0]; · iexact H0
      isplitl [H4]; · iexact H4
      isplitl [H6]; · iexact H6
      isplitl [H7]; · iexact H7
      isplitl [H8]; · iexists _; iexact H8
      isplitl [S0]; · iexact S0
      isplitl [S1]; · iexact S1
      isplitl [S2]; · iexact S2
      isplitl [S3]; · iexact S3
      isplitl [S4]; · iexact S4
      iintro ⟨H0, H4, H6, H7, H8, S0, S1, S2, S3, S4⟩
      isplitl [S0 S1 S2 S3 S4 Hg]
      · isplitl [S0 S1 S2 S3 S4]
        · isplitl [S0]; · iexact S0
          isplitl [S1]; · iexact S1
          isplitl [S2]; · iexact S2
          isplitl [S3]; · iexact S3
          iexact S4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [Dat.leavesExact_idle (dats m 0 c) 8 t (idle_out t hl) (noFlush_out t hl), accAt_pos m c t hz]
      rw [inv_pos m c _ _ hz]
      iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (body_mid c (grid0.coords t) _ _ _ _ _ _ _ _ _ _ _ _ _ _ _ _ _ _ _ _ _ _ _ _ _ _ _ _ (fun h => hz ((isFirst_iff t).mp h)) (fun h => hl ((isLast_iff t).mp h)) (iblk m c 4 t) (iblk m c 6 t) (normT m c) (coefT m c) (biasT m c) (accAt m c (t.val - 1) (Nat.lt_of_le_of_lt (Nat.sub_le _ _) t.isLt)) Set.univ _)
      isplitl [H4]; · iexact H4
      isplitl [H6]; · iexact H6
      isplitl [S0]; · iexact S0
      isplitl [S1]; · iexact S1
      isplitl [S2]; · iexact S2
      isplitl [S3]; · iexact S3
      isplitl [S4]; · iexact S4
      iintro ⟨H4, H6, S0, S1, S2, S3, S4⟩
      isplitl [S0 S1 S2 S3 S4 Hg]
      · isplitl [S0 S1 S2 S3 S4]
        · isplitl [S0]; · iexact S0
          isplitl [S1]; · iexact S1
          isplitl [S2]; · iexact S2
          isplitl [S3]; · iexact S3
          iexact S4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The body table's row at point `t` is the body as called there. -/
theorem body_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) :
    BodyObligation (dats (F := F) m 0 c) (defs₀ (F := F)) Variants.none () Set.univ := fun t => by
  rw [bigSep_W0, bigSep_W0, body_row]
  exact triple_restated (sound_body m c t) rfl .rfl fun _ => .rfl

/-- What the launch hands over is the invariant before the first point. -/
theorem inv_in (c : Dev nD) : Pipeline.ΦA spec0 c ⊢ (dats m 0 c).Φ 0 := by
  rw [show (dats m 0 c).Φ 0 = inv m c 0 (Nat.zero_le _) from rfl, inv_zero m c 0 _ rfl]

/-- After the last point the invariant gives back what the launch handed over. -/
theorem inv_out (c : Dev nD) : (dats m 0 c).Φ (Fin.last cfg0.N) ⊢ Pipeline.ΦA spec0 c := by
  rw [show (dats m 0 c).Φ (Fin.last cfg0.N) = inv m c cfg0.N le_rfl from rfl,
    inv_pos m c _ _ (by have h : cfg0.N = 16 := N_0; omega), launchInv_eq]
  iintro ⟨⟨S0, S1, S2, S3, S4⟩, Hg⟩
  isplitl [S0 S1 S2 S3 S4]
  · isplitl [S0]; · iexists _; iexact S0
    isplitl [S1]; · iexists _; iexact S1
    isplitl [S2]; · iexists _; iexact S2
    isplitl [S3]; · iexists _; iexact S3
    iexact S4
  iexact Hg

/-! ## The run -/

set_option backward.isDefEq.respectTransparency.types false in
/-- Every fair execution ends, with every window's array as the proof data says, every other buffer as the region
found it, and every counter at zero. -/
theorem run_pipeline : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := dats_A m) (hin := inv_in m) (hout := inv_out m)

/-- The frame: the argument arrays end as launched and every counter is zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (dats_A m) ((θ_run defs _ _).mono (fun _ h => h.1) (run_pipeline m ρ)))
    ((θ_run defs _ _).mono (fun _ h => h.2) (run_pipeline m ρ))

end Cert.KernelIdeal.Body

end
-- ==== Proof.Frames.lean ====
/- The frames: the kernel's at both instances from ONE run of the launch (Proof/Run.lean), the reference's from the
   run of its host operations. -/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Run

@[expose] public section

set_option maxRecDepth 16384
set_option maxHeartbeats 1000000

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts

/-- The two printings of the kernel have the same body at every label. -/
theorem bodies_eq : @Cert.Kernel.defs₀ Bits _ _ = @Cert.KernelIdeal.defs₀ Bits _ _ := by
  unfold Cert.Kernel.defs₀ Cert.KernelIdeal.defs₀
  refine congrArg Defs.onTc ?_
  funext l x
  match l, x with
  | 0, (t, s) => rfl
  | ⟨_ + 1, h⟩, _ => exact absurd h (Nat.not_lt.2 (Nat.le_add_left _ _))

/-- The two printings of the kernel have the same definitions, pipelines included. -/
theorem defs_eq : @Cert.Kernel.defs Bits _ _ = @Cert.KernelIdeal.defs Bits _ _ := by
  unfold Cert.Kernel.defs Cert.KernelIdeal.defs
  exact congrArg (Idealize.ShloMosaic.Pipeline.defs (Cert.KernelIdeal.pcfgs (F := Bits))) bodies_eq

/-- The kernel as printed: its arguments end unchanged and every counter reads zero. -/
theorem frame_kernel : Cert.quiescent_Kernel := fun m ρ _ => by
  have h := Cert.KernelIdeal.Body.run_frame (F := Bits) m ρ
  rw [← defs_eq] at h
  exact h

/-- The kernel read over the extended reals: the same run at that instance. -/
theorem frame_ideal : Cert.quiescent_KernelIdeal := fun m ρ _ =>
  Cert.KernelIdeal.Body.run_frame (F := Ideal) m ρ

/-- The reference's arguments end unchanged; it has no semaphore, so every counter reads zero. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Proof

end
-- ==== Proof.Arrays.lean ====
module

public import proofs.«01_k».proof.Proof.Run
public import Idealize.ShloMosaic.Lib.Pointwise

/-! # The arrays of the run

The blocks the body sees as parts of the argument arrays, and the output array as the run leaves it: the output block of
the last point. Holds at any float instance. -/

@[expose] public section

set_option maxRecDepth 16384

noncomputable section

namespace Cert.KernelIdeal.Body

open Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-! ## The input blocks -/

/-- Window 0 holds the whole first argument. -/
theorem blk_0 (c : Dev nD) (t : Fin cfg0.N) : iblk m c 0 t = m ((c : Thread nD τ).loc main_arg0) := by
  rw [← V_main_arg0 m c]
  have e : ∀ a, win0_0.index t a = 0 :=
    (by decide +kernel : ∀ (t : Fin cfg0.N) (a : Fin 3), win0_0.index t a = 0) t
  funext y
  refine congrArg (V m c main_arg0) (funext fun a => Fin.ext ?_)
  have h : (((cfg0.win 0).blk t).view.emb y a).val = win0_0.index t a * S1x128x768.size a + 1 * (y a).val := rfl
  exact h.trans (by rw [e a]; omega)

/-- Window 1 holds the whole reshaped second argument. -/
theorem blk_1 (c : Dev nD) (t : Fin cfg0.N) : iblk m c 1 t = V m c main_v0 := by
  have e : ∀ a, win0_1.index t a = 0 :=
    (by decide +kernel : ∀ (t : Fin cfg0.N) (a : Fin 2), win0_1.index t a = 0) t
  funext y
  refine congrArg (V m c main_v0) (funext fun a => Fin.ext ?_)
  have h : (((cfg0.win 1).blk t).view.emb y a).val = win0_1.index t a * S1x768.size a + 1 * (y a).val := rfl
  exact h.trans (by rw [e a]; omega)

/-- Window 2 holds the whole third argument. -/
theorem blk_2 (c : Dev nD) (t : Fin cfg0.N) : iblk m c 2 t = m ((c : Thread nD τ).loc main_arg2) := by
  rw [← V_main_arg2 m c]
  have e : ∀ a, win0_2.index t a = 0 :=
    (by decide +kernel : ∀ (t : Fin cfg0.N) (a : Fin 2), win0_2.index t a = 0) t
  funext y
  refine congrArg (V m c main_arg2) (funext fun a => Fin.ext ?_)
  have h : (((cfg0.win 2).blk t).view.emb y a).val = win0_2.index t a * S16x768.size a + 1 * (y a).val := rfl
  exact h.trans (by rw [e a]; omega)

/-- Window 3 holds the whole reshaped fourth argument. -/
theorem blk_3 (c : Dev nD) (t : Fin cfg0.N) : iblk m c 3 t = V m c main_v1 := by
  have e : ∀ a, win0_3.index t a = 0 :=
    (by decide +kernel : ∀ (t : Fin cfg0.N) (a : Fin 2), win0_3.index t a = 0) t
  funext y
  refine congrArg (V m c main_v1) (funext fun a => Fin.ext ?_)
  have h : (((cfg0.win 3).blk t).view.emb y a).val = win0_3.index t a * S1x16.size a + 1 * (y a).val := rfl
  exact h.trans (by rw [e a]; omega)

/-- The expert of a point. -/
def expert (t : Fin cfg0.N) : Fin 16 := ⟨t.val, lt_of_lt_of_eq t.isLt N_0⟩

/-- At point `t`, window 4 holds the first weight matrix of expert `t`. -/
theorem blk_4 (c : Dev nD) (t : Fin cfg0.N) (o : Fin 1536) (h : Fin 768) :
    iblk m c 4 t (ix3 (0 : Fin 1) o h) = m ((c : Thread nD τ).loc main_arg4) (ix3 (expert t) o h) := by
  rw [← V_main_arg4 m c]
  have e : win0_4.index t 0 = t.val ∧ win0_4.index t 1 = 0 ∧ win0_4.index t 2 = 0 :=
    (by decide +kernel : ∀ (t : Fin cfg0.N), win0_4.index t 0 = t.val ∧ win0_4.index t 1 = 0 ∧ win0_4.index t 2 = 0) t
  have g : ∀ a : Fin 3, (((cfg0.win 4).blk t).view.emb (ix3 (0 : Fin 1) o h) a).val
      = win0_4.index t a * S1x1536x768.size a + 1 * ((ix3 (0 : Fin 1) o h) a).val := fun _ => rfl
  refine congrArg (V m c main_arg4) (funext fun a => Fin.ext ?_)
  match a with
  | ⟨0, _⟩ => exact (g 0).trans (by rw [e.1]; show t.val * 1 + 1 * 0 = t.val; omega)
  | ⟨1, _⟩ => exact (g 1).trans (by rw [e.2.1]; show 0 * 1536 + 1 * o.val = o.val; omega)
  | ⟨2, _⟩ => exact (g 2).trans (by rw [e.2.2]; show 0 * 768 + 1 * h.val = h.val; omega)

/-- Window 5 holds the whole sixth argument. -/
theorem blk_5 (c : Dev nD) (t : Fin cfg0.N) : iblk m c 5 t = m ((c : Thread nD τ).loc main_arg5) := by
  rw [← V_main_arg5 m c]
  have e : ∀ a, win0_5.index t a = 0 :=
    (by decide +kernel : ∀ (t : Fin cfg0.N) (a : Fin 2), win0_5.index t a = 0) t
  funext y
  refine congrArg (V m c main_arg5) (funext fun a => Fin.ext ?_)
  have h : (((cfg0.win 5).blk t).view.emb y a).val = win0_5.index t a * S16x1536.size a + 1 * (y a).val := rfl
  exact h.trans (by rw [e a]; omega)

/-- At point `t`, window 6 holds the second weight matrix of expert `t`. -/
theorem blk_6 (c : Dev nD) (t : Fin cfg0.N) (o : Fin 768) (h : Fin 768) :
    iblk m c 6 t (ix3 (0 : Fin 1) o h) = m ((c : Thread nD τ).loc main_arg6) (ix3 (expert t) o h) := by
  rw [← V_main_arg6 m c]
  have e : win0_6.index t 0 = t.val ∧ win0_6.index t 1 = 0 ∧ win0_6.index t 2 = 0 :=
    (by decide +kernel : ∀ (t : Fin cfg0.N), win0_6.index t 0 = t.val ∧ win0_6.index t 1 = 0 ∧ win0_6.index t 2 = 0) t
  have g : ∀ a : Fin 3, (((cfg0.win 6).blk t).view.emb (ix3 (0 : Fin 1) o h) a).val
      = win0_6.index t a * S1x768x768.size a + 1 * ((ix3 (0 : Fin 1) o h) a).val := fun _ => rfl
  refine congrArg (V m c main_arg6) (funext fun a => Fin.ext ?_)
  match a with
  | ⟨0, _⟩ => exact (g 0).trans (by rw [e.1]; show t.val * 1 + 1 * 0 = t.val; omega)
  | ⟨1, _⟩ => exact (g 1).trans (by rw [e.2.1]; show 0 * 768 + 1 * o.val = o.val; omega)
  | ⟨2, _⟩ => exact (g 2).trans (by rw [e.2.2]; show 0 * 768 + 1 * h.val = h.val; omega)

/-- Window 7 holds the whole eighth argument. -/
theorem blk_7 (c : Dev nD) (t : Fin cfg0.N) : iblk m c 7 t = m ((c : Thread nD τ).loc main_arg7) := by
  rw [← V_main_arg7 m c]
  have e : ∀ a, win0_7.index t a = 0 :=
    (by decide +kernel : ∀ (t : Fin cfg0.N) (a : Fin 2), win0_7.index t a = 0) t
  funext y
  refine congrArg (V m c main_arg7) (funext fun a => Fin.ext ?_)
  have h : (((cfg0.win 7).blk t).view.emb y a).val = win0_7.index t a * S16x768.size a + 1 * (y a).val := rfl
  exact h.trans (by rw [e a]; omega)

/-- The reshaped second argument is the second argument as one row. -/
theorem arr_v0 (c : Dev nD) : V m c main_v0 = shapeCast S1x768 (m ((c : Thread nD τ).loc main_arg1)) shapeCasts_S768_S1x768 := rfl
/-- The reshaped fourth argument is the fourth argument as one row. -/
theorem arr_v1 (c : Dev nD) : V m c main_v1 = shapeCast S1x16 (m ((c : Thread nD τ).loc main_arg3)) shapeCasts_S16_S1x16 := rfl

/-! ## The output array -/

/-- The grid's last point. -/
def ptLast : Fin cfg0.N := ⟨15, lt_of_lt_of_eq (by decide : 15 < 16) N_0.symm⟩

/-- The output's block starts at the array's first element. -/
theorem out_index (t : Fin cfg0.N) (a : Fin 3) : win0_8.index t a = 0 :=
  (by decide +kernel : ∀ (t : Fin cfg0.N) (a : Fin 3), win0_8.index t a = 0) t a

/-- The last point writes the output back. -/
theorem flush_last : (cfg0.win 8).flush ptLast = true := by decide +kernel

/-- What a point that writes the output back writes is the last point's output block. -/
theorem flushed_out (c : Dev nD) (t : Fin cfg0.N) (hf : (cfg0.win 8).flush t = true) :
    (dats m 0 c).flushed 8 t = ((cfg0.win 8).blk t).view.read (Elt F) (outAt m c ptLast) := by
  have ht : t.val = 15 := by
    by_contra hne
    exact Bool.noConfusion ((noFlush_out t hne).symm.trans hf)
  have hp : t = ptLast := Fin.ext ht
  subst hp
  show (cfg0.win 8).cut (grid0.coords ptLast) ((dats m 0 c).after 8 ptLast) = _
  rw [after_8]
  funext y
  refine congrArg (outAt m c ptLast) (funext fun a => Fin.ext ?_)
  have h : (((cfg0.win 8).blk ptLast).view.emb y a).val = win0_8.index ptLast a * S1x128x768.size a + 1 * (y a).val := rfl
  refine Eq.trans ?_ h.symm
  rw [out_index]
  show (y a).val = _
  omega

/-- The output array after the run is the last point's output block. -/
theorem out_array (c : Dev nD) : (dats m 0 c).arrAt 8 cfg0.N = outAt m c ptLast :=
  (dats m 0 c).arrAt_eq_of_cover 8 _ (fun t hf => flushed_out m c t hf) (fun i => ⟨ptLast, flush_last, by
    show i ∈ ((View.whole main_v2).slice (win0_8.rect ptLast)).set
    rw [View.set_slice_whole, Rect.mem_set_unit]
    intro a
    show win0_8.index ptLast a * S1x128x768.size a ≤ (i a).val ∧ (i a).val < win0_8.index ptLast a * S1x128x768.size a + S1x128x768.size a
    rw [out_index]
    have := (i a).isLt
    constructor
    · omega
    · have h : (i a).val < S1x128x768.size a := (i a).isLt
      omega⟩)

/-- Every execution ends with the output array at the last point's output block and the arguments as launched. -/
theorem run_value : θ_run defs (onTc (τ := τ) (main (F := F))) ⟨m, fun _ => 0, ρ⟩ (fun r => ∀ c : Dev nD,
      r.2.mem ((c.tc : Thread nD τ).loc main_v2) = outAt m c ptLast
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h.1 c).1 8).trans (out_array m c), h.2.1 c⟩)
    (θ_run_and ((θ_run defs _ _).mono (fun _ h => h.1) (run_pipeline m ρ)) (run_frame m ρ))

end Cert.KernelIdeal.Body

end
-- ==== Proof.TopTwo.lean ====
module

public import Idealize.ShloMosaic.Lib.Pointwise
public import Idealize.ShloMosaic.Lib.SortPrefix
public import Idealize.ShloMosaic.Lib.WordArith

/-! # The two greatest of sixteen

What it means for two positions to hold the greatest and the second greatest of sixteen extended reals, ties going to
the lower position, and the two ways of finding them: the maximum, the first position that holds it, and the same again
with that position masked; and the first two positions of a stable descending sort. -/

@[expose] public section

noncomputable section

namespace Cert.Proof

open Idealize.ShloMosaic

/-- Position `i` holds the greatest of `f`, position `j` the greatest of the rest, each the first to do so. -/
structure TopTwo (f : Fin 16 → EReal) (i j : Fin 16) : Prop where
  /-- The positions differ. -/
  ne : j ≠ i
  /-- Nothing exceeds the value at `i`. -/
  fst : ∀ k, f k ≤ f i
  /-- No position before `i` holds its value. -/
  fstLeast : ∀ k, f k = f i → i ≤ k
  /-- Apart from position `i`, nothing exceeds the value at `j`. -/
  snd : ∀ k, k ≠ i → f k ≤ f j
  /-- Apart from position `i`, no position before `j` holds its value. -/
  sndLeast : ∀ k, k ≠ i → f k = f j → j ≤ k

/-- In a nonempty set of positions one is the first to hold the set's greatest value. -/
theorem exists_first_max (f : Fin 16 → EReal) (S : Finset (Fin 16)) (hS : S.Nonempty) :
    ∃ i ∈ S, (∀ k ∈ S, f k ≤ f i) ∧ ∀ k ∈ S, f k = f i → i ≤ k := by
  obtain ⟨a, ha, hmax⟩ := Finset.exists_max_image S f hS
  obtain ⟨i, hi, hmin⟩ := Finset.exists_min_image (S.filter fun k => f k = f a) id
    ⟨a, Finset.mem_filter.mpr ⟨ha, rfl⟩⟩
  obtain ⟨hiS, hia⟩ := Finset.mem_filter.mp hi
  exact ⟨i, hiS, fun k hk => hia ▸ hmax k hk, fun k hk hki => hmin k (Finset.mem_filter.mpr ⟨hk, hki.trans hia⟩)⟩

/-- Sixteen values always have a greatest and a second greatest. -/
theorem exists_topTwo (f : Fin 16 → EReal) : ∃ i j, TopTwo f i j := by
  obtain ⟨i, -, h1, h2⟩ := exists_first_max f Finset.univ ⟨0, Finset.mem_univ _⟩
  have hne : (Finset.univ.erase i : Finset (Fin 16)).Nonempty := by
    rw [← Finset.card_pos, Finset.card_erase_of_mem (Finset.mem_univ i)]
    simp
  obtain ⟨j, hj, h3, h4⟩ := exists_first_max f _ hne
  exact ⟨i, j, (Finset.mem_erase.mp hj).1, fun k => h1 k (Finset.mem_univ k), fun k => h2 k (Finset.mem_univ k),
    fun k hk => h3 k (Finset.mem_erase.mpr ⟨hk, Finset.mem_univ k⟩),
    fun k hk => h4 k (Finset.mem_erase.mpr ⟨hk, Finset.mem_univ k⟩)⟩

/-! ## By maxima -/

/-- The maximum folded from the least value is the value at a position nothing exceeds. -/
theorem fold_max_eq {n : ℕ} (f : Fin n → EReal) (i : Fin n) (h : ∀ k, f k ≤ f i) :
    Finset.fold max ⊥ f Finset.univ = f i :=
  le_antisymm (Finset.fold_max_le (f i) |>.mpr ⟨bot_le, fun k _ => h k⟩)
    (Finset.le_fold_max (f i) |>.mpr (Or.inr ⟨i, Finset.mem_univ i, le_rfl⟩))

/-- The signed minimum of two words below `2 ^ 31` is the word of the lesser. -/
theorem minsi_word (a b : Fin (2 ^ 31)) :
    BitVec.ofNat 32 (min a b).val = IntOp.minsi (BitVec.ofNat 32 a.val) (BitVec.ofNat 32 b.val) := by
  have ha : (BitVec.ofNat 32 a.val).toNat = a.val := by
    rw [BitVec.toNat_ofNat]; exact Nat.mod_eq_of_lt (by have := a.isLt; omega)
  have hb : (BitVec.ofNat 32 b.val).toNat = b.val := by
    rw [BitVec.toNat_ofNat]; exact Nat.mod_eq_of_lt (by have := b.isLt; omega)
  apply BitVec.eq_of_toNat_eq
  rw [WordArith.toNat_minsi_of_lt _ _ (by rw [ha]; exact a.isLt) (by rw [hb]; exact b.isLt), ha, hb]
  have hm : (min a b).val = min a.val b.val := by
    rcases le_total a b with h | h
    · rw [min_eq_left h, min_eq_left (Fin.le_def.mp h)]
    · rw [min_eq_right h, min_eq_right (Fin.le_def.mp h)]
  rw [BitVec.toNat_ofNat, hm]
  exact Nat.mod_eq_of_lt (by have := a.isLt; omega)

/-- The least of the positions with a property, found as a signed minimum of words with `16` standing for the others. -/
theorem fold_min_first (p : Fin 16 → Prop) [DecidablePred p] (i : Fin 16) (hi : p i) (hl : ∀ k, p k → i ≤ k) :
    Finset.fold IntOp.minsi (2147483647#32) (fun k : Fin 16 => if p k then BitVec.ofNat 32 k.val else 16#32) Finset.univ
      = BitVec.ofNat 32 i.val := by
  let g : Fin 16 → Fin (2 ^ 31) := fun k => if p k then ⟨k.val, by have := k.isLt; omega⟩ else ⟨16, by norm_num⟩
  have hg : (fun k : Fin 16 => if p k then BitVec.ofNat 32 k.val else 16#32) = fun k => BitVec.ofNat 32 (g k).val := by
    funext k
    by_cases h : p k <;> simp [g, h]
  have hfold := Finset.fold_hom (op := min) (op' := IntOp.minsi) (m := fun a : Fin (2 ^ 31) => BitVec.ofNat 32 a.val)
    minsi_word (b := (⟨2147483647, by norm_num⟩ : Fin (2 ^ 31))) (f := g) (s := Finset.univ)
  rw [hg]
  refine hfold.trans ?_
  have hgi : g i = ⟨i.val, by have := i.isLt; omega⟩ := by simp [g, hi]
  have hmin : Finset.fold min (⟨2147483647, by norm_num⟩ : Fin (2 ^ 31)) g Finset.univ = g i := by
    refine le_antisymm (Finset.fold_min_le (g i) |>.mpr (Or.inr ⟨i, Finset.mem_univ i, le_rfl⟩))
      (Finset.le_fold_min (g i) |>.mpr ⟨?_, fun k _ => ?_⟩)
    · rw [hgi, Fin.le_def]; have := i.isLt; show i.val ≤ 2147483647; omega
    · rw [hgi, Fin.le_def]
      by_cases h : p k
      · have := hl k h; simp only [g, h, if_true]; exact this
      · simp only [g, h, if_false]; show i.val ≤ 16; have := i.isLt; omega
  rw [hmin, hgi]

variable {f : Fin 16 → EReal} {i j : Fin 16}

/-- The values with position `i` masked. -/
def masked (f : Fin 16 → EReal) (i : Fin 16) (k : Fin 16) : EReal := if k = i then ⊥ else f k

/-- The masked values' maximum is the second greatest value. -/
theorem TopTwo.fold_masked (h : TopTwo f i j) : Finset.fold max ⊥ (masked f i) Finset.univ = f j := by
  have hj : masked f i j = f j := by simp [masked, h.ne]
  rw [← hj]
  refine fold_max_eq _ _ fun k => ?_
  rw [hj]
  by_cases hk : k = i
  · simp [masked, hk]
  · simp only [masked, hk, if_false]; exact h.snd k hk

/-- The first position whose masked value is the second greatest value is `j`, that value not being the mask's. -/
theorem TopTwo.masked_first (h : TopTwo f i j) (hb : f j ≠ ⊥) (k : Fin 16) (hk : masked f i k = f j) : j ≤ k := by
  by_cases hi : k = i
  · simp only [masked, hi, if_true] at hk; exact absurd hk.symm hb
  · simp only [masked, hi, if_false] at hk; exact h.sndLeast k hi hk

/-- The masked value at `j` is the value there. -/
theorem TopTwo.masked_snd (h : TopTwo f i j) : masked f i j = f j := by simp [masked, h.ne]

/-! ## By sorting -/

/-- Position `a` comes before position `b` in a stable descending sort: its value is greater, or equal and it stands
earlier. -/
def before (f : Fin 16 → EReal) (a b : Fin 16) : Bool := decide (f b < f a) || (decide (f a = f b) && decide (a < b))

/-- That order is a strict total order of the positions. -/
theorem before_total (f : Fin 16 → EReal) : StrictTotalBefore (before f) :=
  StrictTotalBefore.of_key_then_position (fun a b : EReal => decide (b < a)) f (fun a => by simp)
    (fun a b c h1 h2 => by simp only [decide_eq_true_eq] at *; exact h2.trans h1)
    (fun a b => by
      simp only [decide_eq_true_eq]
      rcases lt_trichotomy a b with h | h | h
      · exact Or.inr (Or.inr h)
      · exact Or.inr (Or.inl h)
      · exact Or.inl h)

/-- Inserting a position that stands before all of a list, among equal values, inserts it by the strict total order. -/
theorem insert_before (f : Fin 16 → EReal) (a : Fin 16) (l : List (Fin 16)) (ha : ∀ b ∈ l, a < b) :
    insertBefore (fun b c => decide (f c < f b)) a l = insertBefore (before f) a l := by
  induction l with
  | nil => rfl
  | cons b l ih =>
    have hab := ha b (List.mem_cons_self ..)
    have e : before f b a = decide (f a < f b) := by
      simp only [before]
      have : decide (b < a) = false := by simpa using hab.le
      rw [this, Bool.and_false, Bool.or_false]
    unfold insertBefore
    rw [e, ih fun c hc => ha c (List.mem_cons_of_mem _ hc)]

/-- The stable sort by value alone of positions in increasing order is the sort by the strict total order. -/
theorem sort_before (f : Fin 16 → EReal) (l : List (Fin 16)) (hl : l.Pairwise (· < ·)) :
    stableSort (fun b c => decide (f c < f b)) l = stableSort (before f) l := by
  induction l with
  | nil => rfl
  | cons a l ih =>
    obtain ⟨ha, hl'⟩ := List.pairwise_cons.mp hl
    unfold stableSort
    rw [ih hl']
    exact insert_before f a _ fun b hb => ha b ((perm_stableSort _ l).mem_iff.mp hb)

/-- Comparators that sort the positions alike agree on every entry of the sort. -/
theorem sortedFrom_congr {n : ℕ} {B B' : Fin n → Fin n → Bool} (h : sortPositions n B = sortPositions n B') (k : Fin n) :
    sortedFrom B k = sortedFrom B' k := by
  unfold sortedFrom
  rw [List.get_of_eq h]
  rfl

/-- The same, position by position. -/
theorem sortedFrom_before (f : Fin 16 → EReal) (k : Fin 16) :
    sortedFrom (fun b c => decide (f c < f b)) k = sortedFrom (before f) k := by
  have h : sortPositions 16 (fun b c => decide (f c < f b)) = sortPositions 16 (before f) :=
    sort_before f _ (List.pairwise_lt_finRange 16)
  exact sortedFrom_congr h k

/-- The first two positions of the stable descending sort are `i` and `j`. -/
theorem TopTwo.sorted (h : TopTwo f i j) (k : Fin 2) :
    sortedFrom (fun b c => decide (f c < f b)) (k.castLE (by decide : 2 ≤ 16)) = ![i, j] k := by
  rw [sortedFrom_before]
  have hji : before f j i = false := by
    simp only [before, Bool.or_eq_false_iff, decide_eq_false_iff_not, not_lt, Bool.and_eq_false_iff]
    refine ⟨h.fst j, ?_⟩
    by_cases e : f j = f i
    · exact Or.inr (h.fstLeast j e)
    · exact Or.inl e
  refine (before_total f).sortedFrom_eq_of_prefix (by decide) ![i, j] ?_ ?_ ?_ k
  · intro a b hab
    fin_cases a <;> fin_cases b
    · rfl
    · exact absurd hab.symm h.ne
    · exact absurd hab h.ne
    · rfl
  · intro a b hab
    fin_cases a <;> fin_cases b
    · exact absurd hab (by decide)
    · exact hji
    · exact absurd hab (by decide)
    · exact absurd hab (by decide)
  · intro a p hp
    have hi : p ≠ i := fun e => hp 0 e.symm
    have hj : p ≠ j := fun e => hp 1 e.symm
    simp only [before, Bool.or_eq_false_iff, decide_eq_false_iff_not, not_lt, Bool.and_eq_false_iff]
    fin_cases a
    · refine ⟨h.fst p, ?_⟩
      by_cases e : f p = f i
      · exact Or.inr (h.fstLeast p e)
      · exact Or.inl e
    · refine ⟨h.snd p hi, ?_⟩
      by_cases e : f p = f j
      · exact Or.inr (h.sndLeast p hi e)
      · exact Or.inl e

end Cert.Proof

end
-- ==== Proof.Spec.lean ====
module

public import Idealize.ShloMosaic.Lib.Pointwise

/-! # The layer's formula

The mixture-of-experts layer over the extended reals, written over its eight arrays, and the two facts of arithmetic by
which a sum over all sixteen experts weighted by a sparse coefficient is the weighted sum of the two chosen ones. -/

@[expose] public section

noncomputable section

namespace Cert.Proof

open Idealize.ShloMosaic

/-- The layer's eight arrays. -/
@[ext] structure Params where
  /-- The input, by token and channel. -/
  x : Fin 128 → Fin 768 → EReal
  /-- The normalisation's weight. -/
  g : Fin 768 → EReal
  /-- The router's weight, by expert and channel. -/
  gw : Fin 16 → Fin 768 → EReal
  /-- The router's bias. -/
  gb : Fin 16 → EReal
  /-- The first layer's weight, by expert, row and channel. -/
  w1 : Fin 16 → Fin 1536 → Fin 768 → EReal
  /-- The first layer's bias. -/
  b1 : Fin 16 → Fin 1536 → EReal
  /-- The second layer's weight, by expert, channel and inner position. -/
  w2 : Fin 16 → Fin 768 → Fin 768 → EReal
  /-- The second layer's bias. -/
  b2 : Fin 16 → Fin 768 → EReal

namespace Params

variable (p : Params)

/-- The normalised input. -/
def nrm (s : Fin 128) (h : Fin 768) : EReal :=
  p.x s h * Ideal.rsqrt (Ideal.div (∑ k, p.x s k * p.x s k) (Ideal.ofBits .f32 1145044992#32) +
    Ideal.ofBits .f32 925353388#32) * p.g h

/-- The router's logit of an expert for a token. -/
def logit (s : Fin 128) (e : Fin 16) : EReal := ∑ h, p.nrm s h * p.gw e h + p.gb e

/-- A row of an expert's first layer. -/
def pre (e : Fin 16) (o : Fin 1536) (s : Fin 128) : EReal := ∑ h, p.w1 e o h * p.nrm s h + p.b1 e o

/-- The clipped gate: an even row of the first layer. -/
def glu (e : Fin 16) (u : Fin 768) (s : Fin 128) : EReal :=
  min (p.pre e ⟨2 * u.val, by have := u.isLt; omega⟩ s) (Ideal.ofBits .f32 1088421888#32)

/-- The clipped linear part: an odd row of the first layer. -/
def lin (e : Fin 16) (u : Fin 768) (s : Fin 128) : EReal :=
  min (Ideal.ofBits .f32 1088421888#32) (max (Ideal.ofBits .f32 3235905536#32)
    (p.pre e ⟨1 + 2 * u.val, by have := u.isLt; omega⟩ s))

/-- The gated activation. -/
def act (e : Fin 16) (u : Fin 768) (s : Fin 128) : EReal :=
  p.glu e u s * Ideal.logistic (Ideal.ofBits .f32 1071242019#32 * p.glu e u s) * (p.lin e u s + 1)

/-- An expert's second layer, without its bias. -/
def y (e : Fin 16) (h : Fin 768) (s : Fin 128) : EReal := ∑ u, p.w2 e h u * p.act e u s

/-- The exponential of the second logit less the first. -/
def gap (s : Fin 128) (i j : Fin 16) : EReal := Ideal.exp (p.logit s j - p.logit s i)

/-- The first expert's weight in the softmax of the two. -/
def wt0 (s : Fin 128) (i j : Fin 16) : EReal := Ideal.div 1 (1 + p.gap s i j)

/-- The second expert's weight. -/
def wt1 (s : Fin 128) (i j : Fin 16) : EReal := Ideal.div (p.gap s i j) (1 + p.gap s i j)

/-- The layer's output for a token whose two experts are `i` and `j`. -/
def out (s : Fin 128) (h : Fin 768) (i j : Fin 16) : EReal :=
  p.x s h + (p.wt0 s i j * (p.y i h s + p.b2 i h) + p.wt1 s i j * (p.y j h s + p.b2 j h))

/-- The coefficient of expert `e` for a token whose two experts are `i` and `j`: zero for all others. -/
def coef (s : Fin 128) (i j e : Fin 16) : EReal :=
  (if e = i then p.wt0 s i j else 0) + (if e = j then p.wt1 s i j else 0)

/-- A sum over all experts by that coefficient has two terms. -/
theorem sum_coef (s : Fin 128) {i j : Fin 16} (hij : j ≠ i) (v : Fin 16 → EReal) :
    ∑ e, p.coef s i j e * v e = p.wt0 s i j * v i + p.wt1 s i j * v j := by
  have h : ∀ e, p.coef s i j e * v e = (if e = i then p.wt0 s i j * v i else 0) + (if e = j then p.wt1 s i j * v j else 0) := by
    intro e
    unfold coef
    by_cases h1 : e = i
    · subst h1; simp [hij.symm]
    · by_cases h2 : e = j
      · subst h2; simp [h1]
      · simp [h1, h2]
  simp only [h, Finset.sum_add_distrib, Finset.sum_ite_eq', Finset.mem_univ, if_true]

/-- Between finite logits the weights are nonnegative reals. -/
theorem weights_real (s : Fin 128) (i j : Fin 16) (hi : ∃ r : ℝ, p.logit s i = r) (hj : ∃ r : ℝ, p.logit s j = r) :
    (∃ r : ℝ, 0 ≤ r ∧ p.wt0 s i j = r) ∧ ∃ r : ℝ, 0 ≤ r ∧ p.wt1 s i j = r := by
  obtain ⟨a, ha⟩ := hi
  obtain ⟨b, hb⟩ := hj
  have hg : p.gap s i j = ((Real.exp (b - a) : ℝ) : EReal) := by
    unfold gap
    rw [ha, hb, ← EReal.coe_sub]
    exact Ideal.exp_coe _
  have hpos := Real.exp_pos (b - a)
  have hd : (1 : EReal) + ((Real.exp (b - a) : ℝ) : EReal) = ((1 + Real.exp (b - a) : ℝ) : EReal) := by
    rw [EReal.coe_add, EReal.coe_one]
  have hne : 1 + Real.exp (b - a) ≠ 0 := by positivity
  refine ⟨⟨1 / (1 + Real.exp (b - a)), by positivity, ?_⟩, ⟨Real.exp (b - a) * (1 / (1 + Real.exp (b - a))), by positivity, ?_⟩⟩
  · unfold wt0
    rw [hg, hd, Ideal.div_coe hne, one_mul]
  · unfold wt1
    rw [hg, hd, Ideal.div_coe hne, EReal.coe_mul]

/-- The output, as a sum over all sixteen experts and a separate sum of biases. -/
theorem out_eq (s : Fin 128) (h : Fin 768) {i j : Fin 16} (hij : j ≠ i) (hi : ∃ r : ℝ, p.logit s i = r)
    (hj : ∃ r : ℝ, p.logit s j = r) :
    p.x s h + (∑ e, p.coef s i j e * p.y e h s + ∑ e, p.b2 e h * p.coef s i j e) = p.out s h i j := by
  obtain ⟨⟨a, ha, ea⟩, b, hb, eb⟩ := p.weights_real s i j hi hj
  have hswap : ∑ e, p.b2 e h * p.coef s i j e = ∑ e, p.coef s i j e * p.b2 e h :=
    Finset.sum_congr rfl fun e _ => mul_comm _ _
  rw [hswap, p.sum_coef s hij (fun e => p.y e h s), p.sum_coef s hij (fun e => p.b2 e h)]
  unfold out
  rw [ea, eb, EReal.left_distrib_of_nonneg_of_ne_top (by exact_mod_cast ha) (EReal.coe_ne_top a),
    EReal.left_distrib_of_nonneg_of_ne_top (by exact_mod_cast hb) (EReal.coe_ne_top b), add_add_add_comm]

end Params

end Cert.Proof

end
-- ==== Proof.Words.lean ====
module

public import Idealize.ShloMosaic.Lib.Pointwise

/-! # Expert numbers as words, and the layer's constants -/

@[expose] public section

noncomputable section

namespace Cert.Proof

open Idealize.ShloMosaic

/-- Words of expert numbers are equal where the numbers are. -/
theorem word_inj (a b : Fin 16) : BitVec.ofNat 32 a.val = BitVec.ofNat 32 b.val ↔ a = b :=
  (by decide +kernel : ∀ a b : Fin 16, BitVec.ofNat 32 a.val = BitVec.ofNat 32 b.val ↔ a = b) a b

/-- A selection by equality of the words of two expert numbers is a choice by equality of the numbers. -/
theorem select_word {α : Type} (a b : Fin 16) (u v : α) :
    Scalar.select (IntOp.cmpi .eq (BitVec.ofNat 32 a.val) (BitVec.ofNat 32 b.val)) u v = if a = b then u else v := by
  have h : IntOp.cmpi .eq (BitVec.ofNat 32 a.val) (BitVec.ofNat 32 b.val) = BitVec.ofBool (decide (a = b)) :=
    (by decide +kernel : ∀ a b : Fin 16,
      IntOp.cmpi .eq (BitVec.ofNat 32 a.val) (BitVec.ofNat 32 b.val) = BitVec.ofBool (decide (a = b))) a b
  rw [h]
  by_cases e : a = b <;> simp [e, Scalar.select]

/-- The mask word is negative infinity. -/
theorem neg_inf : Ideal.ofBits .f32 4286578688#32 = ⊥ := by simp [Ideal.ofBits, Ideal.ieee]

/-- The mean's divisor is a positive real. -/
theorem width_real : ∃ r : ℝ, 0 < r ∧ Ideal.ofBits .f32 1145044992#32 = (r : EReal) := by
  refine ⟨768, by norm_num, ?_⟩
  simp [Ideal.ofBits, Ideal.ieee]
  rw [← EReal.coe_mul]
  norm_num

/-- The normalisation's added constant is a positive real. -/
theorem eps_real : ∃ r : ℝ, 0 < r ∧ Ideal.ofBits .f32 925353388#32 = (r : EReal) := by
  refine ⟨10995116 / 2 ^ 40, by norm_num, ?_⟩
  simp [Ideal.ofBits, Ideal.ieee]
  rw [← EReal.coe_mul]
  norm_num

end Cert.Proof

end
-- ==== Proof.KernelValue.lean ====
module

public import proofs.«01_k».proof.Proof.Arrays
public import proofs.«01_k».proof.Proof.TopTwo
public import proofs.«01_k».proof.Proof.Spec
public import proofs.«01_k».proof.Proof.Words

/-! # The kernel's output by the formula

What the body's payloads compute at each index over the extended reals, and so the output array as the formula says. -/

@[expose] public section

set_option maxRecDepth 16384

noncomputable section

namespace Cert.KernelIdeal.Body

open Cert.KernelIdeal.Gen Cert.Proof
open Idealize.ShloMosaic Idealize.ShloMosaic.TcCoe
open Idealize.SL.Sem

variable (m : (ℓ : Loc nD τ sig) → Buf (Elt Ideal) ℓ)

/-- The layer's arrays as the kernel's launch holds them. -/
def params (c : Dev nD) : Params where
  x s h := m ((c : Thread nD τ).loc main_arg0) (ix3 (0 : Fin 1) s h)
  g h := m ((c : Thread nD τ).loc main_arg1) (ix1 h)
  gw e h := m ((c : Thread nD τ).loc main_arg2) (ix2 e h)
  gb e := m ((c : Thread nD τ).loc main_arg3) (ix1 e)
  w1 e o h := m ((c : Thread nD τ).loc main_arg4) (ix3 e o h)
  b1 e o := m ((c : Thread nD τ).loc main_arg5) (ix2 e o)
  w2 e h u := m ((c : Thread nD τ).loc main_arg6) (ix3 e h u)
  b2 e h := m ((c : Thread nD τ).loc main_arg7) (ix2 e h)

/-- The normalised input the first point stores, transposed. -/
theorem normT_apply (c : Dev nD) (h : Fin 768) (s : Fin 128) : normT m c (ix2 h s) = (params m c).nrm s h := by
  unfold normT
  rw [blk_0, blk_1, arr_v0]
  pointwise [k0_pay4, k0_pay3]
  rfl

/-- The logits the first point computes, transposed. -/
theorem logits_apply (c : Dev nD) (e : Fin 16) (s : Fin 128) :
    k0_pay5 (iblk m c 0 pt0) (iblk m c 1 pt0) (iblk m c 2 pt0) (iblk m c 3 pt0) (ix2 e s) = (params m c).logit s e := by
  rw [blk_0, blk_1, blk_2, blk_3, arr_v0, arr_v1]
  pointwise [k0_pay5, k0_pay3]
  rfl

/-- The coefficients the first point stores. -/
theorem coefT_apply (c : Dev nD) (e : Fin 16) (s : Fin 128) {i j : Fin 16} (ht : TopTwo ((params m c).logit s) i j)
    (hb : (params m c).logit s j ≠ ⊥) : coefT m c (ix2 e s) = (params m c).coef s i j e := by
  have h5 := fun e => logits_apply m c e s
  unfold coefT
  generalize iblk m c 0 pt0 = X at *
  generalize iblk m c 1 pt0 = NW at *
  generalize iblk m c 2 pt0 = GW at *
  generalize iblk m c 3 pt0 = GB at *
  generalize hf : (params m c).logit s = f at *
  have h6 : k0_pay6 (F := Ideal) X NW GW GB (ix2 0 s) = f i := by
    pointwise [k0_pay6]
    simp only [h5, neg_inf]
    exact fold_max_eq f i ht.fst
  have h7 : k0_pay7 (F := Ideal) X NW GW GB (ix2 0 s) = BitVec.ofNat 32 i.val := by
    pointwise [k0_pay7]
    simp only [h5, h6]
    exact fold_min_first (fun k => f k = f i) i rfl ht.fstLeast
  pointwise [coefs, k0_pay9, k0_pay8]
  simp only [h5, h6, h7, neg_inf, select_word]
  have hm : Finset.fold max ⊥ (fun x => if x = i then ⊥ else f x) Finset.univ = f j := ht.fold_masked
  have hl : Finset.fold IntOp.minsi (2147483647#32)
      (fun x : Fin 16 => if (if x = i then ⊥ else f x) = f j then BitVec.ofNat 32 x.val else 16#32) Finset.univ
      = BitVec.ofNat 32 j.val :=
    fold_min_first (fun k => (if k = i then ⊥ else f k) = f j) j ht.masked_snd (ht.masked_first hb)
  simp only [hm, hl, select_word]
  subst hf
  rfl

/-- One point adds its expert's output, weighted. -/
theorem accNext_apply (c : Dev nD) (t : Fin cfg0.N) (acc : Vec Ideal S768x128 .f32) (h : Fin 768) (s : Fin 128) :
    accNext (grid0.coords t) (normT m c) (coefT m c) (biasT m c) acc (iblk m c 4 t) (iblk m c 6 t) (ix2 h s)
      = acc (ix2 h s) + coefT m c (ix2 (expert t) s) * (params m c).y (expert t) h s := by
  have hn := normT_apply m c
  have hb : ∀ (o : Fin 1536) (e : Fin 16), biasT m c (ix2 o e) = (params m c).b1 e o := by
    intro o e
    unfold biasT
    rw [blk_5]
    pointwise [k0_pay10]
    rfl
  have h4 : ∀ o k, iblk m c 4 t (ix3 (0 : Fin 1) o k) = (params m c).w1 (expert t) o k := blk_4 m c t
  have h6 : ∀ o k, iblk m c 6 t (ix3 (0 : Fin 1) o k) = (params m c).w2 (expert t) o k := blk_6 m c t
  have hc : (grid0.coords t 0).val = (expert t).val :=
    (by decide +kernel : ∀ t : Fin cfg0.N, (grid0.coords t 0).val = t.val) t
  have hr : k0_off1 (grid0.coords t) 0 = (expert t).val :=
    (by decide +kernel : ∀ t : Fin cfg0.N, k0_off1 (grid0.coords t) 0 = t.val) t
  have hz : k0_off1 (grid0.coords t) 1 = 0 := rfl
  generalize iblk m c 4 t = W1 at *
  generalize iblk m c 6 t = W2 at *
  generalize normT m c = N at *
  generalize coefT m c = C at *
  generalize biasT m c = B at *
  generalize expert t = e at *
  generalize grid0.coords t = q at *
  pointwise [accNext, k0_pay1, k0_pay13, k0_pay14, k0_pay15]
  simp only [hn, hb, h4, h6, hc, hr, hz, select_word, Finset.sum_ite_eq', Finset.mem_univ, if_true, zero_add]
  rfl

/-- Expert `e`'s weighted output, zero where there is no such expert. -/
def term (c : Dev nD) (h : Fin 768) (s : Fin 128) (e : ℕ) : EReal :=
  if he : e < 16 then coefT m c (ix2 ⟨e, he⟩ s) * (params m c).y ⟨e, he⟩ h s else 0

/-- After point `n` the accumulator holds the sum over the experts up to `n`. -/
theorem accAt_apply (c : Dev nD) (h : Fin 768) (s : Fin 128) (n : ℕ) (hn : n < cfg0.N) :
    accAt m c n hn (ix2 h s) = ∑ e ∈ Finset.range (n + 1), term m c h s e := by
  have hterm : ∀ (n : ℕ) (hn : n < cfg0.N), term m c h s n
      = coefT m c (ix2 (expert ⟨n, hn⟩) s) * (params m c).y (expert ⟨n, hn⟩) h s := fun n hn =>
    dif_pos (lt_of_lt_of_eq hn N_0)
  induction n with
  | zero =>
    have hz : accZero (F := Ideal) (ix2 h s) = 0 := by pointwise [accZero, k0_pay12, k0_pay11]
    rw [Finset.sum_range_one, hterm 0 hn]
    refine (accNext_apply m c ⟨0, hn⟩ accZero h s).trans ?_
    rw [hz, zero_add]
  | succ n ih =>
    rw [Finset.sum_range_succ, ← ih (Nat.lt_of_succ_lt hn), hterm (n + 1) hn]
    exact accNext_apply m c ⟨n + 1, hn⟩ _ h s

/-- The kernel's output at an index is the formula's, for a token whose two greatest logits stand at `i` and `j` and are
finite. -/
theorem outAt_apply (c : Dev nD) (s : Fin 128) (h : Fin 768) {i j : Fin 16} (ht : TopTwo ((params m c).logit s) i j)
    (hi : ∃ r : ℝ, (params m c).logit s i = r) (hj : ∃ r : ℝ, (params m c).logit s j = r) :
    outAt m c ptLast (ix3 (0 : Fin 1) s h) = (params m c).out s h i j := by
  have hb : (params m c).logit s j ≠ ⊥ := by
    obtain ⟨r, hr⟩ := hj
    rw [hr]
    exact EReal.coe_ne_bot r
  have hc := fun e => coefT_apply m c e s ht hb
  have ha : accAt m c ptLast.val ptLast.isLt (ix2 h s) = ∑ e, (params m c).coef s i j e * (params m c).y e h s := by
    rw [accAt_apply]
    show ∑ e ∈ Finset.range 16, term m c h s e = _
    rw [Finset.sum_range]
    refine Finset.sum_congr rfl fun e _ => ?_
    rw [term, dif_pos e.isLt, hc]
  have hx : iblk m c 0 ptLast (ix3 (0 : Fin 1) s h) = (params m c).x s h := by rw [blk_0]; rfl
  have h2 : ∀ e, iblk m c 7 ptLast (ix2 e h) = (params m c).b2 e h := fun e => by rw [blk_7]; rfl
  rw [← (params m c).out_eq s h ht.ne hi hj]
  unfold outAt
  generalize iblk m c 0 ptLast = X at *
  generalize iblk m c 7 ptLast = B at *
  generalize accAt m c ptLast.val ptLast.isLt = A at *
  generalize coefT m c = C at *
  pointwise [k0_pay2]
  simp only [ha, hx, h2, hc]

end Cert.KernelIdeal.Body

end
-- ==== Proof.Gathers.lean ====
module

public import Idealize.ShloMosaic.Lib.Pointwise

/-! # Rows gathered by expert number

`stablehlo.gather` of whole slices of an array along its first axis, one for each entry of an index array, read at an
index: the slice at the entry, read signed and clamped into the axis. -/

@[expose] public section

noncomputable section

namespace Cert.Proof

open Idealize.ShloMosaic

variable {α : Type}

/-- The dimension numbers of a gather of the matrices of a stack of sixteen. -/
abbrev matDims (O H : ℕ) (wf : GatherDims.WF ⟨3, ![16, O, H]⟩ ⟨4, ![1, 128, 2, 1]⟩ ⟨5, ![1, 128, 2, O, H]⟩ [3, 4] [0] [] [0] []
    3 ![1, O, H]) : GatherDims ⟨3, ![16, O, H]⟩ ⟨4, ![1, 128, 2, 1]⟩ ⟨5, ![1, 128, 2, O, H]⟩ where
  offsetDims := [3, 4]
  collapsedSliceDims := [0]
  operandBatchingDims := []
  startIndicesBatchingDims := []
  startIndexMap := [0]
  indexVectorDim := 3
  sliceSizes := ![1, O, H]
  wf := wf

/-- The dimension numbers of a gather of the rows of a matrix of sixteen. -/
abbrev rowDims (O : ℕ) (wf : GatherDims.WF ⟨2, ![16, O]⟩ ⟨4, ![1, 128, 2, 1]⟩ ⟨4, ![1, 128, 2, O]⟩ [3] [0] [] [0] []
    3 ![1, O]) : GatherDims ⟨2, ![16, O]⟩ ⟨4, ![1, 128, 2, 1]⟩ ⟨4, ![1, 128, 2, O]⟩ where
  offsetDims := [3]
  collapsedSliceDims := [0]
  operandBatchingDims := []
  startIndicesBatchingDims := []
  startIndexMap := [0]
  indexVectorDim := 3
  sliceSizes := ![1, O]
  wf := wf

/-- A gathered matrix's entry is the entry of the matrix at the index word, clamped. -/
theorem gather_mat {O H : ℕ} (wf) (x : (⟨3, ![16, O, H]⟩ : Shape).Idx → α) (idx : IVec ⟨4, ![1, 128, 2, 1]⟩ 32)
    (s : Fin 128) (k : Fin 2) (o : Fin O) (h : Fin H) :
    Host.gather (matDims O H wf) x idx (ix5 (0 : Fin 1) s k o h)
      = x (ix3 (⟨min (idx (ix4 (0 : Fin 1) s k (0 : Fin 1))).toInt.toNat 15, by omega⟩ : Fin 16) o h) := by
  generalize hy : ix5 (0 : Fin 1) s k o h = y
  unfold Host.gather
  congr 1
  funext a
  refine Fin.ext ?_
  show (matDims O H wf).start y idx a + (matDims O H wf).batchCoord y a + (matDims O H wf).offCoord y a = _
  rw [GatherDims.batchCoord_eq_zero _ _ _ List.not_mem_nil, Nat.add_zero]
  match a with
  | ⟨0, _⟩ =>
    have hoff : (matDims O H wf).offCoord y 0 = 0 :=
      GatherDims.offCoord_eq_zero _ _ _ (fun h => ((GatherDims.mem_sKept _ _).mp h).1 (List.mem_singleton.mpr rfl))
    have hsi : (matDims O H wf).siIdx y ⟨List.idxOf (0 : Fin 3) (matDims O H wf).startIndexMap,
        List.idxOf_lt_length_iff.2 (List.mem_singleton.mpr rfl)⟩ = ix4 (0 : Fin 1) s k (0 : Fin 1) := by
      subst hy
      funext b; refine Fin.ext ?_
      match b with
      | ⟨0, _⟩ => rfl
      | ⟨1, _⟩ => rfl
      | ⟨2, _⟩ => rfl
      | ⟨3, _⟩ => rfl
    refine (congrArg _ hoff).trans ?_
    rw [Nat.add_zero]
    unfold GatherDims.start
    refine (dif_pos (show (0 : Fin 3) ∈ (matDims O H wf).startIndexMap from List.mem_singleton.mpr rfl)).trans ?_
    exact congrArg (fun q => min (idx q).toInt.toNat 15) hsi
  | ⟨1, _⟩ =>
    subst hy
    have hs : (matDims O H wf).start (ix5 (0 : Fin 1) s k o h) idx 1 = 0 := dif_neg (by simp)
    refine (congrArg (· + _) hs).trans ?_
    rw [Nat.zero_add]
    rfl
  | ⟨2, _⟩ =>
    subst hy
    have hs : (matDims O H wf).start (ix5 (0 : Fin 1) s k o h) idx 2 = 0 := dif_neg (by simp)
    refine (congrArg (· + _) hs).trans ?_
    rw [Nat.zero_add]
    rfl

/-- A gathered row's entry is the entry of the row at the index word, clamped. -/
theorem gather_row {O : ℕ} (wf) (x : (⟨2, ![16, O]⟩ : Shape).Idx → α) (idx : IVec ⟨4, ![1, 128, 2, 1]⟩ 32)
    (s : Fin 128) (k : Fin 2) (o : Fin O) :
    Host.gather (rowDims O wf) x idx (ix4 (0 : Fin 1) s k o)
      = x (ix2 (⟨min (idx (ix4 (0 : Fin 1) s k (0 : Fin 1))).toInt.toNat 15, by omega⟩ : Fin 16) o) := by
  generalize hy : ix4 (0 : Fin 1) s k o = y
  unfold Host.gather
  congr 1
  funext a
  refine Fin.ext ?_
  show (rowDims O wf).start y idx a + (rowDims O wf).batchCoord y a + (rowDims O wf).offCoord y a = _
  rw [GatherDims.batchCoord_eq_zero _ _ _ List.not_mem_nil, Nat.add_zero]
  match a with
  | ⟨0, _⟩ =>
    have hoff : (rowDims O wf).offCoord y 0 = 0 :=
      GatherDims.offCoord_eq_zero _ _ _ (fun h => ((GatherDims.mem_sKept _ _).mp h).1 (List.mem_singleton.mpr rfl))
    have hsi : (rowDims O wf).siIdx y ⟨List.idxOf (0 : Fin 2) (rowDims O wf).startIndexMap,
        List.idxOf_lt_length_iff.2 (List.mem_singleton.mpr rfl)⟩ = ix4 (0 : Fin 1) s k (0 : Fin 1) := by
      subst hy
      funext b; refine Fin.ext ?_
      match b with
      | ⟨0, _⟩ => rfl
      | ⟨1, _⟩ => rfl
      | ⟨2, _⟩ => rfl
      | ⟨3, _⟩ => rfl
    refine (congrArg _ hoff).trans ?_
    rw [Nat.add_zero]
    unfold GatherDims.start
    refine (dif_pos (show (0 : Fin 2) ∈ (rowDims O wf).startIndexMap from List.mem_singleton.mpr rfl)).trans ?_
    exact congrArg (fun q => min (idx q).toInt.toNat 15) hsi
  | ⟨1, _⟩ =>
    subst hy
    have hs : (rowDims O wf).start (ix4 (0 : Fin 1) s k o) idx 1 = 0 := dif_neg (by simp)
    refine (congrArg (· + _) hs).trans ?_
    rw [Nat.zero_add]
    rfl

/-- An index word that is an expert's number selects that expert. -/
theorem clamp_word (e : Fin 16) (h : min (BitVec.ofNat 32 e.val).toInt.toNat 15 < 16) :
    (⟨min (BitVec.ofNat 32 e.val).toInt.toNat 15, h⟩ : Fin 16) = e :=
  Fin.ext ((by decide +kernel : ∀ e : Fin 16, min (BitVec.ofNat 32 e.val).toInt.toNat 15 = e.val) e)

end Cert.Proof

end
-- ==== Proof.RefValue.lean ====
module

public import proofs.«01_k».proof.Proof.Gen.ReferenceIdeal.Run
public import Idealize.ShloMosaic.Lib.Tactic.CleanTypes
public import proofs.«01_k».proof.Proof.TopTwo
public import proofs.«01_k».proof.Proof.Spec
public import proofs.«01_k».proof.Proof.Words
public import proofs.«01_k».proof.Proof.Gathers

/-! # The reference's output by the formula

What the reference's values are at each index over the extended reals, and so its output as the formula says. -/

@[expose] public section

set_option maxRecDepth 16384

noncomputable section

namespace Cert.ReferenceIdeal.Value

open Cert.Proof
open Idealize.ShloMosaic Idealize.ShloMosaic.TcCoe Idealize.ShloMosaic.StableHlo
open Idealize.SL.Sem

variable (V0 : Valuation τ sig (Elt Ideal))

/-- The layer's arrays as the reference's launch holds them. -/
def params : Params where
  x s h := V0 (Proc.tc.devRef main_arg0) (ix3 (0 : Fin 1) s h)
  g h := V0 (Proc.tc.devRef main_arg1) (ix1 h)
  gw e h := V0 (Proc.tc.devRef main_arg2) (ix2 e h)
  gb e := V0 (Proc.tc.devRef main_arg3) (ix1 e)
  w1 e o h := V0 (Proc.tc.devRef main_arg4) (ix3 e o h)
  b1 e o := V0 (Proc.tc.devRef main_arg5) (ix2 e o)
  w2 e h u := V0 (Proc.tc.devRef main_arg6) (ix3 e h u)
  b2 e h := V0 (Proc.tc.devRef main_arg7) (ix2 e h)

/-- The normalised input. -/
theorem v15_apply (s : Fin 128) (h : Fin 768) : res_main_v15 V0 (ix3 (0 : Fin 1) s h) = (params V0).nrm s h := by
  unfold res_main_v15 res_main_v1 res_main_v0
  clean_types
  pointwise
  rfl

/-- The router's logits. -/
theorem v25_apply (s : Fin 128) (e : Fin 16) : res_main_v25 V0 (ix3 (0 : Fin 1) s e) = (params V0).logit s e := by
  have h := v15_apply V0 s
  unfold res_main_v25
  clean_types
  generalize res_main_v15 V0 = X at *
  pointwise
  simp only [h]
  rfl

/-- A sort of two arrays along an axis reads the first through the sort's permutation. -/
theorem sort2_fst (s : Shape) (d : ℕ) {α β : Type} (cmp : α × β → α × β → BitVec 1) (x : s.Idx → α) (y : s.Idx → β)
    (j : s.Idx) (hd : d < s.rank) :
    (Host.sort2 s d cmp x y).1 j = x (j.along ⟨d, hd⟩ (sortedFrom (fun k k' =>
      cmp (x (j.along ⟨d, hd⟩ k), y (j.along ⟨d, hd⟩ k)) (x (j.along ⟨d, hd⟩ k'), y (j.along ⟨d, hd⟩ k')) == 1#1) (j ⟨d, hd⟩))) := by
  unfold Host.sort2
  rw [dif_pos hd]

/-- And the second through the same permutation. -/
theorem sort2_snd (s : Shape) (d : ℕ) {α β : Type} (cmp : α × β → α × β → BitVec 1) (x : s.Idx → α) (y : s.Idx → β)
    (j : s.Idx) (hd : d < s.rank) :
    (Host.sort2 s d cmp x y).2 j = y (j.along ⟨d, hd⟩ (sortedFrom (fun k k' =>
      cmp (x (j.along ⟨d, hd⟩ k), y (j.along ⟨d, hd⟩ k)) (x (j.along ⟨d, hd⟩ k'), y (j.along ⟨d, hd⟩ k')) == 1#1) (j ⟨d, hd⟩))) := by
  unfold Host.sort2
  rw [dif_pos hd]

/-- A stable descending sort of rows of sixteen with their positions, read at one of its first two places. -/
theorem sort_apply (X : Vec Ideal ⟨3, ![1, 128, 16]⟩ .f32) (s : Fin 128) (f : Fin 16 → EReal)
    (hX : ∀ e, X (ix3 (0 : Fin 1) s e) = f e) {i j : Fin 16} (ht : TopTwo f i j) (k : Fin 2) (hk : k.val < 16) :
    (Host.sort2 (⟨3, ![1, 128, 16]⟩ : Shape) 2 (fun l r : Ideal .f32 × BitVec 32 => FloatOps.cmpfTotal (F := Ideal) (φ := .f32) .gt l.1 r.1) X
        fun i => BitVec.ofNat 32 (i 2).val).1 (ix3 (0 : Fin 1) s (⟨k.val, hk⟩ : Fin 16)) = f (![i, j] k)
    ∧ (Host.sort2 (⟨3, ![1, 128, 16]⟩ : Shape) 2 (fun l r : Ideal .f32 × BitVec 32 => FloatOps.cmpfTotal (F := Ideal) (φ := .f32) .gt l.1 r.1) X
        fun i => BitVec.ofNat 32 (i 2).val).2 (ix3 (0 : Fin 1) s (⟨k.val, hk⟩ : Fin 16)) = BitVec.ofNat 32 (![i, j] k).val := by
  have hl : ∀ e : Fin 16, Shape.Idx.along (ix3 (0 : Fin 1) s (⟨k.val, hk⟩ : Fin 16)) (2 : Fin 3) e = ix3 (0 : Fin 1) s e := by
    intro e
    funext a
    match a with
    | ⟨0, _⟩ => rfl
    | ⟨1, _⟩ => rfl
    | ⟨2, _⟩ => rfl
  have hcmp : (fun a b : Fin 16 => FloatOps.cmpfTotal (F := Ideal) (φ := .f32) .gt
      (X (Shape.Idx.along (ix3 (0 : Fin 1) s (⟨k.val, hk⟩ : Fin 16)) (2 : Fin 3) a))
      (X (Shape.Idx.along (ix3 (0 : Fin 1) s (⟨k.val, hk⟩ : Fin 16)) (2 : Fin 3) b)) == 1#1) = fun a b => decide (f b < f a) := by
    funext a b
    rw [hl, hl, hX, hX]
    show (BitVec.ofBool (decide (f b < f a)) == 1#1) = _
    by_cases h : f b < f a <;> simp [h]
  have hs := (congrArg (fun B => sortedFrom B (⟨k.val, hk⟩ : Fin 16)) hcmp).trans (ht.sorted k)
  constructor
  · rw [sort2_fst _ _ _ _ _ _ (by decide : 2 < 3)]
    exact (congrArg (fun q : Fin 16 => X (Shape.Idx.along (ix3 (0 : Fin 1) s (⟨k.val, hk⟩ : Fin 16)) (2 : Fin 3) q)) hs).trans
      ((congrArg X (hl _)).trans (hX _))
  · rw [sort2_snd _ _ _ _ _ _ (by decide : 2 < 3)]
    have hv : ∀ q : Fin 16, (Shape.Idx.along (ix3 (0 : Fin 1) s (⟨k.val, hk⟩ : Fin 16)) (2 : Fin 3) q (2 : Fin 3)).val = q.val :=
      fun q => by rw [hl]; rfl
    exact (congrArg (fun q : Fin 16 => BitVec.ofNat 32
      (Shape.Idx.along (ix3 (0 : Fin 1) s (⟨k.val, hk⟩ : Fin 16)) (2 : Fin 3) q (2 : Fin 3)).val) hs).trans
      (congrArg (BitVec.ofNat 32) (hv _))

/-- The kept values: the two greatest logits. -/
theorem values_apply (s : Fin 128) {i j : Fin 16} (ht : TopTwo ((params V0).logit s) i j) (k : Fin 2) :
    res_main_values V0 (ix3 (0 : Fin 1) s k) = (params V0).logit s (![i, j] k) := by
  have h := v25_apply V0 s
  unfold res_main_values
  clean_types
  generalize res_main_v25 V0 = X at *
  unfold Host.topK
  pointwise
  exact (sort_apply X s _ h ht k _).1

/-- Their positions, as words. -/
theorem indices_apply (s : Fin 128) {i j : Fin 16} (ht : TopTwo ((params V0).logit s) i j) (k : Fin 2) :
    res_main_indices V0 (ix3 (0 : Fin 1) s k) = BitVec.ofNat 32 (![i, j] k).val := by
  have h := v25_apply V0 s
  unfold res_main_indices
  clean_types
  generalize res_main_v25 V0 = X at *
  unfold Host.topK
  pointwise
  exact (sort_apply X s _ h ht k _).2

/-- A wrapped index is the index: the words are not negative. -/
theorem wrap_word (e : Fin 16) : Scalar.select (IntOp.cmpi .slt (BitVec.ofNat 32 e.val) 0#32)
    (IntOp.addi (BitVec.ofNat 32 e.val) 16#32) (BitVec.ofNat 32 e.val) = BitVec.ofNat 32 e.val :=
  (by decide +kernel : ∀ e : Fin 16, Scalar.select (IntOp.cmpi .slt (BitVec.ofNat 32 e.val) 0#32)
    (IntOp.addi (BitVec.ofNat 32 e.val) 16#32) (BitVec.ofNat 32 e.val) = BitVec.ofNat 32 e.val) e

/-- A selection by a set bit. -/
theorem select_on {α : Type} (u v : α) : Scalar.select 1#1 u v = u := rfl

/-- The range check of an index passes. -/
theorem range_word (e : Fin 16) : Finset.fold IntOp.andi 1#1 (fun _ : Fin 1 =>
    IntOp.andi (IntOp.cmpi .sge (BitVec.ofNat 32 e.val) 0#32) (IntOp.cmpi .sle (BitVec.ofNat 32 e.val) 15#32)) Finset.univ = 1#1 :=
  (by decide +kernel : ∀ e : Fin 16, Finset.fold IntOp.andi 1#1 (fun _ : Fin 1 =>
    IntOp.andi (IntOp.cmpi .sge (BitVec.ofNat 32 e.val) 0#32) (IntOp.cmpi .sle (BitVec.ofNat 32 e.val) 15#32)) Finset.univ = 1#1) e

/-- The index words of the first gather. -/
theorem call0_apply (s : Fin 128) {i j : Fin 16} (ht : TopTwo ((params V0).logit s) i j) (k : Fin 2) (z : Fin 1) :
    res_main_call0_v5 V0 (ix4 (0 : Fin 1) s k z) = BitVec.ofNat 32 (![i, j] k).val := by
  have h := indices_apply V0 s ht
  obtain rfl : z = 0 := Subsingleton.elim _ _
  unfold res_main_call0_v5
  clean_types
  generalize res_main_indices V0 = X at *
  pointwise
  simp only [h, wrap_word]

/-- The index words of the second gather. -/
theorem call1_apply (s : Fin 128) {i j : Fin 16} (ht : TopTwo ((params V0).logit s) i j) (k : Fin 2) (z : Fin 1) :
    res_main_call1_v5 V0 (ix4 (0 : Fin 1) s k z) = BitVec.ofNat 32 (![i, j] k).val := call0_apply V0 s ht k z

/-- The index words of the third gather. -/
theorem call2_apply (s : Fin 128) {i j : Fin 16} (ht : TopTwo ((params V0).logit s) i j) (k : Fin 2) (z : Fin 1) :
    res_main_call2_v5 V0 (ix4 (0 : Fin 1) s k z) = BitVec.ofNat 32 (![i, j] k).val := call0_apply V0 s ht k z

/-- The index words of the fourth gather. -/
theorem call3_apply (s : Fin 128) {i j : Fin 16} (ht : TopTwo ((params V0).logit s) i j) (k : Fin 2) (z : Fin 1) :
    res_main_call3_v5 V0 (ix4 (0 : Fin 1) s k z) = BitVec.ofNat 32 (![i, j] k).val := call0_apply V0 s ht k z

/-- The exponentials of the kept logits less the greatest. -/
theorem v32_apply (s : Fin 128) {i j : Fin 16} (ht : TopTwo ((params V0).logit s) i j) (k : Fin 2) :
    res_main_v32 V0 (ix3 (0 : Fin 1) s k) = Ideal.exp ((params V0).logit s (![i, j] k) - (params V0).logit s i) := by
  have h := values_apply V0 s ht
  unfold res_main_v32
  clean_types
  generalize res_main_values V0 = X at *
  pointwise
  simp only [h, neg_inf]
  have hm : Finset.fold max ⊥ (fun x : Fin 2 => (params V0).logit s (![i, j] x)) Finset.univ = (params V0).logit s i :=
    fold_max_eq (fun x : Fin 2 => (params V0).logit s (![i, j] x)) 0 (fun x => ht.fst _)
  rw [hm, max_eq_right bot_le]

/-- The first layer of a kept expert: a row of it for each pair of an inner position and a part. -/
theorem v44_apply (s : Fin 128) {i j : Fin 16} (ht : TopTwo ((params V0).logit s) i j) (k : Fin 2) (u : Fin 768) (b : Fin 2) :
    res_main_v44 V0 (ix5 (0 : Fin 1) s k u b)
      = (params V0).pre (![i, j] k) ⟨u.val * 2 + b.val, by have := u.isLt; have := b.isLt; omega⟩ s := by
  have h0 := call0_apply V0 s ht k
  have h1 := call1_apply V0 s ht k
  have hn := v15_apply V0 s
  unfold res_main_v44
  clean_types
  generalize res_main_call0_v5 V0 = C0 at *
  generalize res_main_call1_v5 V0 = C1 at *
  generalize res_main_v15 V0 = X at *
  have g0 : ∀ o h, Host.gather gather_S16x1536x768_S1x128x2x1_S1x128x2x1536x768_34_0_n_n_0_3_11536768
      (V0 (Proc.tc.devRef main_arg4)) C0 (ix5 (0 : Fin 1) s k o h) = (params V0).w1 (![i, j] k) o h := fun o h => by
    have e := gather_mat gather_S16x1536x768_S1x128x2x1_S1x128x2x1536x768_34_0_n_n_0_3_11536768.wf
      (V0 (Proc.tc.devRef main_arg4)) C0 s k o h
    simp only [h0, clamp_word] at e
    exact e
  have g1 : ∀ o, Host.gather gather_S16x1536_S1x128x2x1_S1x128x2x1536_3_0_n_n_0_3_11536
      (V0 (Proc.tc.devRef main_arg5)) C1 (ix4 (0 : Fin 1) s k o) = (params V0).b1 (![i, j] k) o := fun o => by
    have e := gather_row gather_S16x1536_S1x128x2x1_S1x128x2x1536_3_0_n_n_0_3_11536.wf
      (V0 (Proc.tc.devRef main_arg5)) C1 s k o
    simp only [h1, clamp_word] at e
    exact e
  pointwise
  simp only [h0, h1, range_word, hn, g0, g1, select_on]
  rfl

/-- The clipped gate of a kept expert. -/
theorem v50_apply (s : Fin 128) {i j : Fin 16} (ht : TopTwo ((params V0).logit s) i j) (k : Fin 2) (u : Fin 768) :
    res_main_v50 V0 (ix4 (0 : Fin 1) s k u) = (params V0).glu (![i, j] k) u s := by
  have h := v44_apply V0 s ht k
  unfold res_main_v50
  clean_types
  generalize res_main_v44 V0 = X at *
  pointwise
  simp only [h]
  have hi : (⟨u.val * 2 + (0 : Fin 2).val, by have := u.isLt; simp; omega⟩ : Fin 1536)
      = ⟨2 * u.val, by have := u.isLt; omega⟩ := Fin.ext (by simp; omega)
  unfold Params.glu
  rw [← hi]

/-- The clipped linear part, with the bounds applied in the other order of arguments. -/
theorem lin_eq (p : Params) (s : Fin 128) (e : Fin 16) (u : Fin 768) (hu : u.val * 2 + (1 : Fin 2).val < 1536) :
    min (max (p.pre e ⟨u.val * 2 + (1 : Fin 2).val, hu⟩ s) (Ideal.ofBits .f32 3235905536#32)) (Ideal.ofBits .f32 1088421888#32)
      = p.lin e u s := by
  have hi : (⟨u.val * 2 + (1 : Fin 2).val, hu⟩ : Fin 1536) = ⟨1 + 2 * u.val, by have := u.isLt; omega⟩ :=
    Fin.ext (by simp; omega)
  rw [hi, min_comm, max_comm]
  rfl

variable (m : (ℓ : Loc nD τ sig) → Buf (Elt Ideal) ℓ) (ρ : Dev nD → PrngReg)

/-- Every execution ends with the output by the formula, for a token whose two greatest logits stand at `i` and `j` and
are finite, and with the arguments as launched. -/
theorem run_value : θ_run defs (onTc (τ := τ) (main (F := Ideal))) ⟨m, fun _ => 0, ρ⟩ (fun r => ∀ c : Dev nD,
      (∀ (s : Fin 128) (h : Fin 768) (i j : Fin 16), TopTwo ((params (launchContents m c)).logit s) i j →
        (∃ r : ℝ, (params (launchContents m c)).logit s i = r) →
        r.2.mem ((c.tc : Thread nD τ).loc main_v75) (ix3 (0 : Fin 1) s h) = (params (launchContents m c)).out s h i j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ⟨fun s o i j ht hi => ?_, (h c).2⟩) (run (F := Ideal) m ρ)
  refine (congrFun (h c).1 _).trans ?_
  generalize launchContents m c = V0 at *
  have h2 := call2_apply V0 s ht
  have h3 := call3_apply V0 s ht
  have h32 := v32_apply V0 s ht
  have h50 := v50_apply V0 s ht
  have h44 := v44_apply V0 s ht
  have h0 : res_main_v0 V0 (ix3 (0 : Fin 1) s o) = (params V0).x s o := by
    unfold res_main_v0
    clean_types
    pointwise
    rfl
  clean_types
  generalize res_main_call2_v5 V0 = C2 at *
  generalize res_main_call3_v5 V0 = C3 at *
  generalize res_main_v32 V0 = X32 at *
  generalize res_main_v44 V0 = X44 at *
  generalize res_main_v50 V0 = X50 at *
  generalize res_main_v0 V0 = X0 at *
  have g2 : ∀ k o h, Host.gather gather_S16x768x768_S1x128x2x1_S1x128x2x768x768_34_0_n_n_0_3_1768768
      (V0 (Proc.tc.devRef main_arg6)) C2 (ix5 (0 : Fin 1) s k o h) = (params V0).w2 (![i, j] k) o h := fun k o h => by
    have e := gather_mat gather_S16x768x768_S1x128x2x1_S1x128x2x768x768_34_0_n_n_0_3_1768768.wf
      (V0 (Proc.tc.devRef main_arg6)) C2 s k o h
    simp only [h2, clamp_word] at e
    exact e
  have g3 : ∀ k o, Host.gather gather_S16x768_S1x128x2x1_S1x128x2x768_3_0_n_n_0_3_1768
      (V0 (Proc.tc.devRef main_arg7)) C3 (ix4 (0 : Fin 1) s k o) = (params V0).b2 (![i, j] k) o := fun k o => by
    have e := gather_row gather_S16x768_S1x128x2x1_S1x128x2x768_3_0_n_n_0_3_1768.wf
      (V0 (Proc.tc.devRef main_arg7)) C3 s k o
    simp only [h3, clamp_word] at e
    exact e
  pointwise
  simp only [h0, h2, h3, h32, h50, h44, g2, g3, range_word, select_on, lin_eq]
  have he : Ideal.exp ((params V0).logit s i - (params V0).logit s i) = 1 := by
    obtain ⟨a, ha⟩ := hi
    rw [ha, ← EReal.coe_sub, sub_self]
    refine (Ideal.exp_coe _).trans ?_
    rw [Real.exp_zero, EReal.coe_one]
  have hsum : ∑ x : Fin 2, Ideal.exp ((params V0).logit s (![i, j] x) - (params V0).logit s i)
      = 1 + (params V0).gap s i j := by
    rw [Fin.sum_univ_two, ← he]
    rfl
  rw [hsum, Fin.sum_univ_two]
  show (params V0).x s o + (Ideal.div (Ideal.exp ((params V0).logit s i - (params V0).logit s i)) (1 + (params V0).gap s i j)
      * ((params V0).y i o s + (params V0).b2 i o)
    + Ideal.div ((params V0).gap s i j) (1 + (params V0).gap s i j) * ((params V0).y j o s + (params V0).b2 j o)) = _
  rw [he]
  rfl

end Cert.ReferenceIdeal.Value

end
-- ==== Proof.Finite.lean ====
module

public import proofs.«01_k».proof.Pre_router_finite
public import proofs.«01_k».proof.Proof.Spec
public import proofs.«01_k».proof.Proof.Words

/-! # Finite logits

The precondition says that the normalisation's weight and the router's weight and bias are finite; then every logit is,
whatever the input. -/

@[expose] public section

noncomputable section

namespace Cert.Proof

open Idealize.ShloMosaic

/-- A value of absolute value below positive infinity is real. -/
theorem real_of_abs_lt {v : EReal} (h : max v (-v) < ⊤) : ∃ r : ℝ, v = r := by
  induction v with
  | bot => simp at h
  | coe r => exact ⟨r, rfl⟩
  | top => simp at h

/-- A product of reals is real. -/
theorem mul_real {a b : EReal} (ha : ∃ r : ℝ, a = r) (hb : ∃ r : ℝ, b = r) : ∃ r : ℝ, a * b = r := by
  obtain ⟨x, rfl⟩ := ha
  obtain ⟨y, rfl⟩ := hb
  exact ⟨x * y, (EReal.coe_mul x y).symm⟩

/-- A sum of two reals is real. -/
theorem add_real {a b : EReal} (ha : ∃ r : ℝ, a = r) (hb : ∃ r : ℝ, b = r) : ∃ r : ℝ, a + b = r := by
  obtain ⟨x, rfl⟩ := ha
  obtain ⟨y, rfl⟩ := hb
  exact ⟨x + y, (EReal.coe_add x y).symm⟩

/-- A finite sum of reals is real. -/
theorem sum_real {n : ℕ} (f : Fin n → EReal) (h : ∀ k, ∃ r : ℝ, f k = r) : ∃ r : ℝ, ∑ k, f k = r :=
  Finset.sum_induction f (fun v => ∃ r : ℝ, v = r) (fun _ _ => add_real) ⟨0, EReal.coe_zero.symm⟩ (fun k _ => h k)

/-- A square is not negative. -/
theorem sq_nonneg (v : EReal) : 0 ≤ v * v := by
  induction v with
  | bot => simp
  | coe r => rw [← EReal.coe_mul]; exact_mod_cast mul_self_nonneg r
  | top => simp

/-- A square is real only of a real. -/
theorem sq_top {v : EReal} (h : ¬ ∃ r : ℝ, v = r) : v * v = ⊤ := by
  induction v with
  | bot => simp
  | coe r => exact absurd ⟨r, rfl⟩ h
  | top => simp

/-- The normalised input is real wherever its weight is: an infinite input is scaled by zero. -/
theorem nrm_real (p : Params) (hg : ∀ h, ∃ r : ℝ, p.g h = r) (s : Fin 128) (h : Fin 768) : ∃ r : ℝ, p.nrm s h = r := by
  obtain ⟨w, hw, ew⟩ := width_real
  obtain ⟨e, he, ee⟩ := eps_real
  unfold Params.nrm
  rw [ew, ee, Ideal.div_coe hw.ne']
  have hnn : 0 ≤ ∑ k, p.x s k * p.x s k := Finset.sum_nonneg fun k _ => sq_nonneg _
  by_cases hx : ∀ k, ∃ r : ℝ, p.x s k = r
  · refine mul_real (mul_real (hx h) ?_) (hg h)
    obtain ⟨q, hq⟩ := sum_real (fun k => p.x s k * p.x s k) fun k => mul_real (hx k) (hx k)
    rw [hq] at hnn ⊢
    have hq0 : 0 ≤ q := by exact_mod_cast hnn
    have hpos : 0 < q * (1 / w) + e := by positivity
    rw [← EReal.coe_mul, ← EReal.coe_add, Ideal.rsqrt_coe, if_neg hpos.not_gt, if_neg hpos.ne']
    exact ⟨_, rfl⟩
  · obtain ⟨k, hk⟩ := not_forall.mp hx
    have ht : ∑ k, p.x s k * p.x s k = ⊤ := by
      refine top_le_iff.mp ?_
      rw [← sq_top hk]
      exact Finset.single_le_sum (f := fun k => p.x s k * p.x s k) (fun k _ => sq_nonneg _) (Finset.mem_univ k)
    have hpos : 0 < 1 / w := by positivity
    rw [ht, EReal.top_mul_coe_of_pos hpos, EReal.top_add_coe, Ideal.rsqrt_top, mul_zero, zero_mul]
    exact ⟨0, EReal.coe_zero.symm⟩

/-- Every logit is real where the weights and biases before it are. -/
theorem logit_real (p : Params) (hg : ∀ h, ∃ r : ℝ, p.g h = r) (hw : ∀ e h, ∃ r : ℝ, p.gw e h = r)
    (hb : ∀ e, ∃ r : ℝ, p.gb e = r) (s : Fin 128) (e : Fin 16) : ∃ r : ℝ, p.logit s e = r :=
  add_real (sum_real _ fun h => mul_real (nrm_real p hg s h) (hw e h)) (hb e)

/-- Three bits whose conjunction is set are set. -/
theorem and_set (a b c : BitVec 1) (h : IntOp.andi (IntOp.andi a b) c = 1#1) : a = 1#1 ∧ b = 1#1 ∧ c = 1#1 :=
  (by decide +kernel : ∀ a b c : BitVec 1, IntOp.andi (IntOp.andi a b) c = 1#1 → a = 1#1 ∧ b = 1#1 ∧ c = 1#1) a b c h

/-- A set comparison of an absolute value with positive infinity makes the value real. -/
theorem real_of_bit {v t : EReal} (ht : t = ⊤) (h : BitVec.ofBool (decide (max v (-v) < t)) = 1#1) : ∃ r : ℝ, v = r := by
  subst ht
  refine real_of_abs_lt ?_
  by_contra hn
  rw [decide_eq_false hn] at h
  exact absurd h (by decide)

variable [Pre_router_finite.Facts]

/-- Where the precondition holds, the normalisation's weight and the router's weight and bias are real. -/
theorem pre_real (a0 a1 a2 a3 a4 a5 a6 a7)
    (hp : Pre_router_finite.fn (F := Ideal) a0 a1 a2 a3 a4 a5 a6 a7 = fun _ => 1#1) (e : Fin 16) (h : Fin 768) :
    (∃ r : ℝ, a1 (ix1 h) = (r : EReal)) ∧ (∃ r : ℝ, a2 (ix2 e h) = (r : EReal)) ∧ ∃ r : ℝ, a3 (ix1 e) = (r : EReal) := by
  have hq := congrFun hp (ix2 e h)
  have t32 : Ideal.ofBits .f32 0x7F800000#32 = ⊤ := by simp [Ideal.ofBits, Ideal.ieee]
  have t16 : Ideal.ofBits .bf16 0x7F80#16 = ⊤ := by simp [Ideal.ofBits, Ideal.ieee]
  have key : Pre_router_finite.fn (F := Ideal) a0 a1 a2 a3 a4 a5 a6 a7 (ix2 e h) = IntOp.andi (IntOp.andi
      (BitVec.ofBool (decide (max (a1 (ix1 h)) (-(a1 (ix1 h))) < Ideal.ofBits .f32 0x7F800000#32)))
      (BitVec.ofBool (decide (max (a2 (ix2 e h)) (-(a2 (ix2 e h))) < Ideal.ofBits .bf16 0x7F80#16))))
      (BitVec.ofBool (decide (max (a3 (ix1 e)) (-(a3 (ix1 e))) < Ideal.ofBits .bf16 0x7F80#16))) := by
    unfold Pre_router_finite.fn
    pointwise
    rfl
  obtain ⟨h1, h2, h3⟩ := and_set _ _ _ (key.symm.trans hq)
  exact ⟨real_of_bit t32 h1, real_of_bit t16 h2, real_of_bit t16 h3⟩

end Cert.Proof

end
-- ==== Proof.Equal.lean ====
module

public import proofs.«01_k».proof.Defs
public import proofs.«01_k».proof.Proof.Frames
public import proofs.«01_k».proof.Proof.KernelValue
public import proofs.«01_k».proof.Proof.RefValue
public import proofs.«01_k».proof.Proof.Finite

/-! # Kernel and reference agree

The frames under the precondition, and the equality over the extended reals: both outputs are the formula's. -/

@[expose] public section

set_option maxRecDepth 16384

noncomputable section

namespace Cert.Proof

open Idealize.ShloMosaic Idealize.ShloMosaic.StableHlo Idealize.SL.Sem

variable [Cert.Pre_router_finite.Facts]

/-- The kernel's frame, with the precondition that is not needed for it. -/
theorem frame_ideal_pre : Cert.quiescent_KernelIdeal_pre_router_finite := fun m ρ _ =>
  Cert.KernelIdeal.Body.run_frame (F := Ideal) m ρ

/-- The reference's frame, with the precondition that is not needed for it. -/
theorem frame_reference_pre : Cert.quiescent_ReferenceIdeal_pre_router_finite := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Where the precondition holds and the arguments agree, the kernel and the reference end with the same output. -/
theorem equal : Cert.algebraic_KernelIdeal_ReferenceIdeal_pre_router_finite := by
  intro m ρ m' ρ' hpre hagree
  refine ⟨fun c => Cert.KernelIdeal.Body.outAt m c Cert.KernelIdeal.Body.ptLast, Cert.KernelIdeal.Body.run_value m ρ, ?_⟩
  refine (θ_run Cert.ReferenceIdeal.defs _ _).mono (fun r h c => ⟨funext fun x => ?_, (h c).2⟩)
    (Cert.ReferenceIdeal.Value.run_value m' ρ')
  obtain ⟨h0, h1, h2, h3, h4, h5, h6, h7⟩ := hagree c
  have hp : Cert.ReferenceIdeal.Value.params (launchContents m' c) = Cert.KernelIdeal.Body.params m c :=
    Params.ext (funext fun s => funext fun k => congrFun h0 (ix3 (0 : Fin 1) s k))
      (funext fun k => congrFun h1 (ix1 k))
      (funext fun e => funext fun k => congrFun h2 (ix2 e k))
      (funext fun e => congrFun h3 (ix1 e))
      (funext fun e => funext fun o => funext fun k => congrFun h4 (ix3 e o k))
      (funext fun e => funext fun o => congrFun h5 (ix2 e o))
      (funext fun e => funext fun k => funext fun u => congrFun h6 (ix3 e k u))
      (funext fun e => funext fun k => congrFun h7 (ix2 e k))
  have hreal := fun e k => pre_real _ _ _ _ _ _ _ _ (hpre c) e k
  have hl : ∀ s e, ∃ r : ℝ, (Cert.KernelIdeal.Body.params m c).logit s e = r :=
    logit_real _ (fun k => (hreal 0 k).1) (fun e k => (hreal e k).2.1) (fun e => (hreal e 0).2.2)
  obtain ⟨z, s, k, rfl⟩ : ∃ (z : Fin 1) (s : Fin 128) (k : Fin 768), x = ix3 z s k := ⟨x 0, x 1, x 2, eq_ix3 x⟩
  obtain rfl : z = 0 := Subsingleton.elim _ _
  obtain ⟨i, j, ht⟩ := exists_topTwo ((Cert.KernelIdeal.Body.params m c).logit s)
  have hr := (h c).1 s k i j
  rw [hp] at hr
  exact (hr ht (hl s i)).trans (Cert.KernelIdeal.Body.outAt_apply m c s k ht (hl s i) (hl s j)).symm

end Cert.Proof

end
-- ==== Proof.lean ====
module

public import proofs.«01_k».proof.Defs
public import proofs.«01_k».proof.Proof.Gen.Pre_router_finite
public import proofs.«01_k».proof.Proof.Frames
public import proofs.«01_k».proof.Proof.Equal

@[expose] public section

noncomputable section

namespace Cert.Proof

open Idealize.ShloMosaic Idealize.SL.Sem

instance : Cert.Pre_router_finite.Facts := Cert.Pre_router_finite.Gen.facts

/-- Everything the certificate claims. -/
theorem claim : Cert.Claim := ⟨Cert.Kernel.Gen.facts, Cert.KernelIdeal.Gen.facts, Cert.ReferenceIdeal.Gen.facts,
  Cert.Pre_router_finite.Gen.facts, frame_kernel, frame_ideal, frame_ideal_pre, frame_reference, frame_reference_pre,
  trivial, equal⟩

end Cert.Proof

end
